-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S2048x1024 : Shape := ⟨2, ![2048, 1024]⟩
abbrev S8x2x128x1024 : Shape := ⟨4, ![8, 2, 128, 1024]⟩
abbrev S8x256x1024 : Shape := ⟨3, ![8, 256, 1024]⟩
abbrev S256x1024 : Shape := ⟨2, ![256, 1024]⟩
abbrev S128x1024 : Shape := ⟨2, ![128, 1024]⟩
abbrev S7x2 : Shape := ⟨2, ![7, 2]⟩
abbrev S8 : Shape := ⟨1, ![8]⟩
abbrev S_ : Shape := ⟨0, ![]⟩
abbrev S128x64 : Shape := ⟨2, ![128, 64]⟩
abbrev S64x1024 : Shape := ⟨2, ![64, 1024]⟩
abbrev S1x1x128x1024 : Shape := ⟨4, ![1, 1, 128, 1024]⟩
abbrev S1x1 : Shape := ⟨2, ![1, 1]⟩
abbrev S256x64 : Shape := ⟨2, ![256, 64]⟩
abbrev S1 : Shape := ⟨1, ![1]⟩
abbrev S1x128x1024 : Shape := ⟨3, ![1, 128, 1024]⟩

abbrev nBuf : Space → Nat
  | .hbm => 3
  | .vmem => 23
  | .smem => 0
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S2048x2048, .f32⟩
  | .local _ .vmem, ⟨0, _⟩ => ⟨S2048x64, .bf16⟩
  | .local _ .vmem, ⟨1, _⟩ => ⟨S64x2048, .bf16⟩
  | .local _ .vmem, ⟨2, _⟩ => ⟨S2048x2048, .f32⟩
  | .local _ .vmem, ⟨3, _⟩ => ⟨S2048x1024, .f32⟩
  | .local _ .vmem, ⟨4, _⟩ => ⟨S2048x1024, .f32⟩
  | .local _ .vmem, ⟨5, _⟩ => ⟨S8x2x128x1024, .bf16⟩
  | .local _ .vmem, ⟨6, _⟩ => ⟨S8x2x128x1024, .bf16⟩
  | .local _ .vmem, ⟨7, _⟩ => ⟨S8x256x1024, .bf16⟩
  | .local _ .vmem, ⟨8, _⟩ => ⟨S8x256x1024, .bf16⟩
  | .local _ .vmem, ⟨9, _⟩ => ⟨S256x1024, .f32⟩
  | .local _ .vmem, ⟨10, _⟩ => ⟨S256x1024, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | _, _ => ⟨S2048x64, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_54 : BitVec 32 := 1#32
  let v67 : BitVec 32 := Scalar.muli v56 c1_i32_54
  let v68 : BitVec 32 := Scalar.addi c0_i32_55 v67
  v68.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_57 : BitVec 32 := 1#32
  let v69 : BitVec 32 := Scalar.muli v54 c1_i32_57
  let v70 : BitVec 32 := Scalar.addi c0_i32_58 v69
  v70.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_47 : BitVec 32 := 2#32
  let v57 : BitVec 1 := Scalar.cmpi .slt v3 c2_i32_47
  let c16_i32 : BitVec 32 := 16#32
  let v58 : BitVec 32 := Scalar.addi v2 c16_i32
  let c16_i32_48 : BitVec 32 := 16#32
  let v59 : BitVec 32 := Scalar.subi v2 c16_i32_48
  let v60 : BitVec 32 := Scalar.select v57 v58 v59
  let c1_i32_60 : BitVec 32 := 1#32
  let v71 : BitVec 32 := Scalar.muli v60 c1_i32_60
  let v72 : BitVec 32 := Scalar.addi c0_i32_61 v71
  v72.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_49 : BitVec 32 := 2#32
  let v61 : BitVec 32 := Scalar.remsi v3 c2_i32_49
  let c0_i32_50 : BitVec 32 := 0#32
  let v62 : BitVec 1 := Scalar.cmpi .eq v61 c0_i32_50
  let c8_i32_51 : BitVec 32 := 8#32
  let v63 : BitVec 32 := Scalar.addi v2 c8_i32_51
  let c8_i32_52 : BitVec 32 := 8#32
  let v64 : BitVec 32 := Scalar.subi v2 c8_i32_52
  let v65 : BitVec 32 := Scalar.select v62 v63 v64
  let c1_i32_63 : BitVec 32 := 1#32
  let v73 : BitVec 32 := Scalar.muli v65 c1_i32_63
  let v74 : BitVec 32 := Scalar.addi c0_i32_64 v73
  v74.toNat
def k0_off1 (d0 : Dev nD) (c128_i32_71 : BitVec 32) (c0_i32_72 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c256_i32 : BitVec 32 := 256#32
  let v82 : BitVec 32 := Scalar.muli v20 c256_i32
  let c8_i32 : BitVec 32 := 8#32
  let v3 : BitVec 32 := Scalar.divsi v2 c8_i32
  let c2_i32_67 : BitVec 32 := 2#32
  let v77 : BitVec 32 := Scalar.remsi v3 c2_i32_67
  let c0_i32_70 : BitVec 32 := 0#32
  let v80 : BitVec 1 := Scalar.cmpi .eq v77 c0_i32_70
  let v81 : BitVec 32 := Scalar.select v80 c128_i32_71 c0_i32_72
  let v83 : BitVec 32 := Scalar.addi v82 v81
  let v84 : Index := Scalar.indexCast v83
  let c0_73 : Index := 0#32
  ![v84.toNat, 0]
def k0_off1_at (r : Fin 2) : BitVec 32 × BitVec 32 :=
  if r.val < 1 then
    (128#32, 0#32)
  else
    (0#32, 128#32)
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_91 : BitVec 32 := 1#32
  let v99 : BitVec 32 := Scalar.muli v54 c1_i32_91
  let v100 : BitVec 32 := Scalar.addi c0_i32_92 v99
  v100.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_105 : BitVec 32 := 1#32
  let v109 : BitVec 32 := Scalar.muli v56 c1_i32_105
  let v110 : BitVec 32 := Scalar.addi c0_i32_106 v109
  v110.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_130 : BitVec 32 := 1#32
  let v136 : BitVec 32 := Scalar.muli v54 c1_i32_130
  let v137 : BitVec 32 := Scalar.addi c0_i32_131 v136
  v137.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_144 : BitVec 32 := 1#32
  let v146 : BitVec 32 := Scalar.muli v56 c1_i32_144
  let v147 : BitVec 32 := Scalar.addi c0_i32_145 v146
  v147.toNat
def k0_off2 (d0 : Dev nD) (c1_i32_150 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let v156 : BitVec 32 := Scalar.subi v20 c1_i32_150
  let c8_i32_151 : BitVec 32 := 8#32
  let v157 : BitVec 32 := Scalar.addi v156 c8_i32_151
  let c8_i32_152 : BitVec 32 := 8#32
  let v158 : BitVec 32 := Scalar.remsi v157 c8_i32_152
  let c256_i32_155 : BitVec 32 := 256#32
  let v161 : BitVec 32 := Scalar.muli v158 c256_i32_155
  let v162 : Index := Scalar.indexCast v161
  let c0_156 : Index := 0#32
  ![v162.toNat, 0]
def k0_off3 (d0 : Dev nD) (c1_i32_153 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let v159 : BitVec 32 := Scalar.addi v20 c1_i32_153
  let c8_i32_154 : BitVec 32 := 8#32
  let v160 : BitVec 32 := Scalar.remsi v159 c8_i32_154
  let c256_i32_157 : BitVec 32 := 256#32
  let v165 : BitVec 32 := Scalar.muli v160 c256_i32_157
  let v166 : Index := Scalar.indexCast v165
  let c0_158 : Index := 0#32
  ![v166.toNat, 0]
def k0_off4 (d0 : Dev nD) (c256_i32_248 : BitVec 32) (c128_i32_71 : BitVec 32) (c0_i32_72 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_70 : BitVec 32 := 0#32
  let v80 : BitVec 1 := Scalar.cmpi .eq v77 c0_i32_70
  let v81 : BitVec 32 := Scalar.select v80 c128_i32_71 c0_i32_72
  let v317 : BitVec 32 := Scalar.addi c256_i32_248 v81
  let v329 : Index := Scalar.indexCast v317
  let c0_267 : Index := 0#32
  ![v329.toNat, 0]
def k0_off4_at (r : Fin 14) : BitVec 32 × BitVec 32 × BitVec 32 :=
  if r.val < 7 then
    if r.val < 3 then
      if r.val < 1 then
        (256#32, 128#32, 0#32)
      else
        if r.val < 2 then
          (256#32, 0#32, 128#32)
        else
          (512#32, 128#32, 0#32)
    else
      if r.val < 5 then
        if r.val < 4 then
          (512#32, 0#32, 128#32)
        else
          (768#32, 128#32, 0#32)
      else
        if r.val < 6 then
          (768#32, 0#32, 128#32)
        else
          (1024#32, 128#32, 0#32)
  else
    if r.val < 10 then
      if r.val < 8 then
        (1024#32, 0#32, 128#32)
      else
        if r.val < 9 then
          (1280#32, 128#32, 0#32)
        else
          (1280#32, 0#32, 128#32)
    else
      if r.val < 12 then
        if r.val < 11 then
          (1536#32, 128#32, 0#32)
        else
          (1536#32, 0#32, 128#32)
      else
        if r.val < 13 then
          (1792#32, 128#32, 0#32)
        else
          (1792#32, 0#32, 128#32)
def k0_dev9 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_280 : BitVec 32 := 1#32
  let v336 : BitVec 32 := Scalar.muli v54 c1_i32_280
  let v337 : BitVec 32 := Scalar.addi c0_i32_281 v336
  v337.toNat
def k0_dev10 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_317 : BitVec 32 := 1#32
  let v364 : BitVec 32 := Scalar.muli v56 c1_i32_317
  let v365 : BitVec 32 := Scalar.addi c0_i32_318 v364
  v365.toNat
def k0_dev11 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_355 : BitVec 32 := 1#32
  let v393 : BitVec 32 := Scalar.muli v54 c1_i32_355
  let v394 : BitVec 32 := Scalar.addi c0_i32_356 v393
  v394.toNat
def k0_dev12 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_392 : BitVec 32 := 1#32
  let v421 : BitVec 32 := Scalar.muli v56 c1_i32_392
  let v422 : BitVec 32 := Scalar.addi c0_i32_393 v421
  v422.toNat
def k0_dev13 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_428 : BitVec 32 := 1#32
  let v450 : BitVec 32 := Scalar.muli v54 c1_i32_428
  let v451 : BitVec 32 := Scalar.addi c0_i32_429 v450
  v451.toNat
def k0_dev14 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_465 : BitVec 32 := 1#32
  let v478 : BitVec 32 := Scalar.muli v56 c1_i32_465
  let v479 : BitVec 32 := Scalar.addi c0_i32_466 v478
  v479.toNat
def k0_dev15 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_503 : BitVec 32 := 1#32
  let v507 : BitVec 32 := Scalar.muli v54 c1_i32_503
  let v508 : BitVec 32 := Scalar.addi c0_i32_504 v507
  v508.toNat
def k0_dev16 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_540 : BitVec 32 := 1#32
  let v535 : BitVec 32 := Scalar.muli v56 c1_i32_540
  let v536 : BitVec 32 := Scalar.addi c0_i32_541 v535
  v536.toNat
def k0_dev17 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_576 : BitVec 32 := 1#32
  let v564 : BitVec 32 := Scalar.muli v54 c1_i32_576
  let v565 : BitVec 32 := Scalar.addi c0_i32_577 v564
  v565.toNat
def k0_dev18 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_613 : BitVec 32 := 1#32
  let v592 : BitVec 32 := Scalar.muli v56 c1_i32_613
  let v593 : BitVec 32 := Scalar.addi c0_i32_614 v592
  v593.toNat
def k0_dev19 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_651 : BitVec 32 := 1#32
  let v621 : BitVec 32 := Scalar.muli v54 c1_i32_651
  let v622 : BitVec 32 := Scalar.addi c0_i32_652 v621
  v622.toNat
def k0_dev20 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_688 : BitVec 32 := 1#32
  let v649 : BitVec 32 := Scalar.muli v56 c1_i32_688
  let v650 : BitVec 32 := Scalar.addi c0_i32_689 v649
  v650.toNat
def k0_dev21 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_724 : BitVec 32 := 1#32
  let v678 : BitVec 32 := Scalar.muli v54 c1_i32_724
  let v679 : BitVec 32 := Scalar.addi c0_i32_725 v678
  v679.toNat
def k0_dev22 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_761 : BitVec 32 := 1#32
  let v706 : BitVec 32 := Scalar.muli v56 c1_i32_761
  let v707 : BitVec 32 := Scalar.addi c0_i32_762 v706
  v707.toNat
def k0_dev23 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_799 : BitVec 32 := 1#32
  let v735 : BitVec 32 := Scalar.muli v54 c1_i32_799
  let v736 : BitVec 32 := Scalar.addi c0_i32_800 v735
  v736.toNat
def k0_dev24 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_836 : BitVec 32 := 1#32
  let v763 : BitVec 32 := Scalar.muli v56 c1_i32_836
  let v764 : BitVec 32 := Scalar.addi c0_i32_837 v763
  v764.toNat
def k0_dev25 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_872 : BitVec 32 := 1#32
  let v792 : BitVec 32 := Scalar.muli v54 c1_i32_872
  let v793 : BitVec 32 := Scalar.addi c0_i32_873 v792
  v793.toNat
def k0_dev26 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_909 : BitVec 32 := 1#32
  let v820 : BitVec 32 := Scalar.muli v56 c1_i32_909
  let v821 : BitVec 32 := Scalar.addi c0_i32_910 v820
  v821.toNat
def k0_dev27 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_947 : BitVec 32 := 1#32
  let v849 : BitVec 32 := Scalar.muli v54 c1_i32_947
  let v850 : BitVec 32 := Scalar.addi c0_i32_948 v849
  v850.toNat
def k0_dev28 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_984 : BitVec 32 := 1#32
  let v877 : BitVec 32 := Scalar.muli v56 c1_i32_984
  let v878 : BitVec 32 := Scalar.addi c0_i32_985 v877
  v878.toNat
def k0_dev29 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1020 : BitVec 32 := 1#32
  let v906 : BitVec 32 := Scalar.muli v54 c1_i32_1020
  let v907 : BitVec 32 := Scalar.addi c0_i32_1021 v906
  v907.toNat
def k0_dev30 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1057 : BitVec 32 := 1#32
  let v934 : BitVec 32 := Scalar.muli v56 c1_i32_1057
  let v935 : BitVec 32 := Scalar.addi c0_i32_1058 v934
  v935.toNat
def k0_dev31 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1095 : BitVec 32 := 1#32
  let v963 : BitVec 32 := Scalar.muli v54 c1_i32_1095
  let v964 : BitVec 32 := Scalar.addi c0_i32_1096 v963
  v964.toNat
def k0_dev32 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1132 : BitVec 32 := 1#32
  let v991 : BitVec 32 := Scalar.muli v56 c1_i32_1132
  let v992 : BitVec 32 := Scalar.addi c0_i32_1133 v991
  v992.toNat
def k0_off5 (d0 : Dev nD) (c128_i32_71 : BitVec 32) (c0_i32_72 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_70 : BitVec 32 := 0#32
  let v80 : BitVec 1 := Scalar.cmpi .eq v77 c0_i32_70
  let v81 : BitVec 32 := Scalar.select v80 c128_i32_71 c0_i32_72
  let v1016 : Index := Scalar.indexCast v81
  let c0_1156 : Index := 0#32
  ![v1016.toNat, 0]
def k0_off5_at (r : Fin 2) : BitVec 32 × BitVec 32 :=
  if r.val < 1 then
    (128#32, 0#32)
  else
    (0#32, 128#32)
def k0_dev33 (d0 : Dev nD) : Nat :=
  let c0_i32_1162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_49 : BitVec 32 := 2#32
  let v61 : BitVec 32 := Scalar.remsi v3 c2_i32_49
  let c0_i32_50 : BitVec 32 := 0#32
  let v62 : BitVec 1 := Scalar.cmpi .eq v61 c0_i32_50
  let c8_i32_51 : BitVec 32 := 8#32
  let v63 : BitVec 32 := Scalar.addi v2 c8_i32_51
  let c8_i32_52 : BitVec 32 := 8#32
  let v64 : BitVec 32 := Scalar.subi v2 c8_i32_52
  let v65 : BitVec 32 := Scalar.select v62 v63 v64
  let c1_i32_1161 : BitVec 32 := 1#32
  let v1024 : BitVec 32 := Scalar.muli v65 c1_i32_1161
  let v1025 : BitVec 32 := Scalar.addi c0_i32_1162 v1024
  v1025.toNat
def k0_dev34 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_49 : BitVec 32 := 2#32
  let v61 : BitVec 32 := Scalar.remsi v3 c2_i32_49
  let c0_i32_50 : BitVec 32 := 0#32
  let v62 : BitVec 1 := Scalar.cmpi .eq v61 c0_i32_50
  let c8_i32_51 : BitVec 32 := 8#32
  let v63 : BitVec 32 := Scalar.addi v2 c8_i32_51
  let c8_i32_52 : BitVec 32 := 8#32
  let v64 : BitVec 32 := Scalar.subi v2 c8_i32_52
  let v65 : BitVec 32 := Scalar.select v62 v63 v64
  let c1_i32_1187 : BitVec 32 := 1#32
  let v1052 : BitVec 32 := Scalar.muli v65 c1_i32_1187
  let v1053 : BitVec 32 := Scalar.addi c0_i32_1188 v1052
  v1053.toNat
def k0_dev35 (d0 : Dev nD) : Nat :=
  let c0_i32_1249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_47 : BitVec 32 := 2#32
  let v57 : BitVec 1 := Scalar.cmpi .slt v3 c2_i32_47
  let c16_i32 : BitVec 32 := 16#32
  let v58 : BitVec 32 := Scalar.addi v2 c16_i32
  let c16_i32_48 : BitVec 32 := 16#32
  let v59 : BitVec 32 := Scalar.subi v2 c16_i32_48
  let v60 : BitVec 32 := Scalar.select v57 v58 v59
  let c1_i32_1248 : BitVec 32 := 1#32
  let v1119 : BitVec 32 := Scalar.muli v60 c1_i32_1248
  let v1120 : BitVec 32 := Scalar.addi c0_i32_1249 v1119
  v1120.toNat
def k0_dev36 (d0 : Dev nD) : Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_47 : BitVec 32 := 2#32
  let v57 : BitVec 1 := Scalar.cmpi .slt v3 c2_i32_47
  let c16_i32 : BitVec 32 := 16#32
  let v58 : BitVec 32 := Scalar.addi v2 c16_i32
  let c16_i32_48 : BitVec 32 := 16#32
  let v59 : BitVec 32 := Scalar.subi v2 c16_i32_48
  let v60 : BitVec 32 := Scalar.select v57 v58 v59
  let c1_i32_1263 : BitVec 32 := 1#32
  let v1144 : BitVec 32 := Scalar.muli v60 c1_i32_1263
  let v1145 : BitVec 32 := Scalar.addi c0_i32_1264 v1144
  v1145.toNat
def k0_dev37 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_49 : BitVec 32 := 2#32
  let v61 : BitVec 32 := Scalar.remsi v3 c2_i32_49
  let c0_i32_50 : BitVec 32 := 0#32
  let v62 : BitVec 1 := Scalar.cmpi .eq v61 c0_i32_50
  let c8_i32_51 : BitVec 32 := 8#32
  let v63 : BitVec 32 := Scalar.addi v2 c8_i32_51
  let c8_i32_52 : BitVec 32 := 8#32
  let v64 : BitVec 32 := Scalar.subi v2 c8_i32_52
  let v65 : BitVec 32 := Scalar.select v62 v63 v64
  let c1_i32_1277 : BitVec 32 := 1#32
  let v1165 : BitVec 32 := Scalar.muli v65 c1_i32_1277
  let v1166 : BitVec 32 := Scalar.addi c0_i32_1278 v1165
  v1166.toNat
def k0_off6 (d0 : Dev nD) (c0_i32_69 : BitVec 32) (c128_i32 : BitVec 32) : Fin 3 → Nat :=
  let c1_i32_1279 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1286 : BitVec 32 := 0#32
  ![1, v79.toNat, 0]
def k0_off6_at (r : Fin 2) : BitVec 32 × BitVec 32 :=
  if r.val < 1 then
    (0#32, 128#32)
  else
    (128#32, 0#32)
def k0_dev38 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1284 : BitVec 32 := 1#32
  let v1171 : BitVec 32 := Scalar.muli v54 c1_i32_1284
  let v1172 : BitVec 32 := Scalar.addi c0_i32_1285 v1171
  v1172.toNat
def k0_dev39 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_49 : BitVec 32 := 2#32
  let v61 : BitVec 32 := Scalar.remsi v3 c2_i32_49
  let c0_i32_50 : BitVec 32 := 0#32
  let v62 : BitVec 1 := Scalar.cmpi .eq v61 c0_i32_50
  let c8_i32_51 : BitVec 32 := 8#32
  let v63 : BitVec 32 := Scalar.addi v2 c8_i32_51
  let c8_i32_52 : BitVec 32 := 8#32
  let v64 : BitVec 32 := Scalar.subi v2 c8_i32_52
  let v65 : BitVec 32 := Scalar.select v62 v63 v64
  let c1_i32_1299 : BitVec 32 := 1#32
  let v1194 : BitVec 32 := Scalar.muli v65 c1_i32_1299
  let v1195 : BitVec 32 := Scalar.addi c0_i32_1300 v1194
  v1195.toNat
def k0_dev40 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1306 : BitVec 32 := 1#32
  let v1200 : BitVec 32 := Scalar.muli v56 c1_i32_1306
  let v1201 : BitVec 32 := Scalar.addi c0_i32_1307 v1200
  v1201.toNat
def k0_off7 (d0 : Dev nD) (c0_i32_69 : BitVec 32) (c128_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c1_i32_1230 : BitVec 32 := 1#32
  let v1095 : BitVec 32 := Scalar.addi v20 c1_i32_1230
  let c8_i32_1231 : BitVec 32 := 8#32
  let v1096 : BitVec 32 := Scalar.remsi v1095 c8_i32_1231
  let c256_i32_1311 : BitVec 32 := 256#32
  let v1210 : BitVec 32 := Scalar.muli v1096 c256_i32_1311
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1211 : BitVec 32 := Scalar.addi v1210 v79
  let v1212 : Index := Scalar.indexCast v1211
  let c0_1312 : Index := 0#32
  ![v1212.toNat, 0]
def k0_off7_at (r : Fin 2) : BitVec 32 × BitVec 32 :=
  if r.val < 1 then
    (0#32, 128#32)
  else
    (128#32, 0#32)
def k0_off8 (d0 : Dev nD) (c0_i32_69 : BitVec 32) (c128_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c1_i32_1232 : BitVec 32 := 1#32
  let v1097 : BitVec 32 := Scalar.subi v20 c1_i32_1232
  let c8_i32_1233 : BitVec 32 := 8#32
  let v1098 : BitVec 32 := Scalar.addi v1097 c8_i32_1233
  let c8_i32_1234 : BitVec 32 := 8#32
  let v1099 : BitVec 32 := Scalar.remsi v1098 c8_i32_1234
  let c256_i32_1315 : BitVec 32 := 256#32
  let v1216 : BitVec 32 := Scalar.muli v1099 c256_i32_1315
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1217 : BitVec 32 := Scalar.addi v1216 v79
  let v1218 : Index := Scalar.indexCast v1217
  let c1024_1316 : Index := 1024#32
  ![v1218.toNat, 1024]
def k0_off8_at (r : Fin 2) : BitVec 32 × BitVec 32 :=
  if r.val < 1 then
    (0#32, 128#32)
  else
    (128#32, 0#32)
def k0_dev41 (d0 : Dev nD) : Nat :=
  let c0_i32_1327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1326 : BitVec 32 := 1#32
  let v1224 : BitVec 32 := Scalar.muli v54 c1_i32_1326
  let v1225 : BitVec 32 := Scalar.addi c0_i32_1327 v1224
  v1225.toNat
def k0_dev42 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1338 : BitVec 32 := 1#32
  let v1236 : BitVec 32 := Scalar.muli v56 c1_i32_1338
  let v1237 : BitVec 32 := Scalar.addi c0_i32_1339 v1236
  v1237.toNat
def k0_off9 (d0 : Dev nD) (c0_i32_69 : BitVec 32) (c128_i32 : BitVec 32) : Fin 3 → Nat :=
  let c2_i32_1363 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1370 : BitVec 32 := 0#32
  ![2, v79.toNat, 0]
def k0_off9_at (r : Fin 2) : BitVec 32 × BitVec 32 :=
  if r.val < 1 then
    (0#32, 128#32)
  else
    (128#32, 0#32)
def k0_dev43 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1368 : BitVec 32 := 1#32
  let v1267 : BitVec 32 := Scalar.muli v54 c1_i32_1368
  let v1268 : BitVec 32 := Scalar.addi c0_i32_1369 v1267
  v1268.toNat
def k0_off10 (d0 : Dev nD) (c0_i32_69 : BitVec 32) (c128_i32 : BitVec 32) : Fin 3 → Nat :=
  let c1_1372 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1277 : Index := Scalar.indexCast v79
  let c0_1373 : Index := 0#32
  ![1, v1277.toNat, 0]
def k0_off10_at (r : Fin 2) : BitVec 32 × BitVec 32 :=
  if r.val < 1 then
    (0#32, 128#32)
  else
    (128#32, 0#32)
def k0_off11 (d0 : Dev nD) (c0_i32_1349 : BitVec 32) (c0_i32_69 : BitVec 32) (c128_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let v1256 : BitVec 32 := Scalar.subi v20 c0_i32_1349
  let c8_i32_1350 : BitVec 32 := 8#32
  let v1257 : BitVec 32 := Scalar.addi v1256 c8_i32_1350
  let c8_i32_1351 : BitVec 32 := 8#32
  let v1258 : BitVec 32 := Scalar.remsi v1257 c8_i32_1351
  let c256_i32_1374 : BitVec 32 := 256#32
  let v1281 : BitVec 32 := Scalar.muli v1258 c256_i32_1374
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1282 : BitVec 32 := Scalar.addi v1281 v79
  let v1283 : Index := Scalar.indexCast v1282
  let c0_1375 : Index := 0#32
  ![v1283.toNat, 0]
def k0_off11_at (r : Fin 14) : BitVec 32 × BitVec 32 × BitVec 32 :=
  if r.val < 7 then
    if r.val < 3 then
      if r.val < 1 then
        (0#32, 0#32, 128#32)
      else
        if r.val < 2 then
          (0#32, 128#32, 0#32)
        else
          (1#32, 0#32, 128#32)
    else
      if r.val < 5 then
        if r.val < 4 then
          (1#32, 128#32, 0#32)
        else
          (2#32, 0#32, 128#32)
      else
        if r.val < 6 then
          (2#32, 128#32, 0#32)
        else
          (3#32, 0#32, 128#32)
  else
    if r.val < 10 then
      if r.val < 8 then
        (3#32, 128#32, 0#32)
      else
        if r.val < 9 then
          (4#32, 0#32, 128#32)
        else
          (4#32, 128#32, 0#32)
    else
      if r.val < 12 then
        if r.val < 11 then
          (5#32, 0#32, 128#32)
        else
          (5#32, 128#32, 0#32)
      else
        if r.val < 13 then
          (6#32, 0#32, 128#32)
        else
          (6#32, 128#32, 0#32)
def k0_dev44 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1390 : BitVec 32 := 1#32
  let v1291 : BitVec 32 := Scalar.muli v56 c1_i32_1390
  let v1292 : BitVec 32 := Scalar.addi c0_i32_1391 v1291
  v1292.toNat
def k0_off12 (d0 : Dev nD) (c0_i32_1352 : BitVec 32) (c0_i32_69 : BitVec 32) (c128_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let v1259 : BitVec 32 := Scalar.addi v20 c0_i32_1352
  let c8_i32_1353 : BitVec 32 := 8#32
  let v1260 : BitVec 32 := Scalar.remsi v1259 c8_i32_1353
  let c256_i32_1396 : BitVec 32 := 256#32
  let v1305 : BitVec 32 := Scalar.muli v1260 c256_i32_1396
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1306 : BitVec 32 := Scalar.addi v1305 v79
  let v1307 : Index := Scalar.indexCast v1306
  let c1024_1397 : Index := 1024#32
  ![v1307.toNat, 1024]
def k0_off12_at (r : Fin 14) : BitVec 32 × BitVec 32 × BitVec 32 :=
  if r.val < 7 then
    if r.val < 3 then
      if r.val < 1 then
        (0#32, 0#32, 128#32)
      else
        if r.val < 2 then
          (0#32, 128#32, 0#32)
        else
          (1#32, 0#32, 128#32)
    else
      if r.val < 5 then
        if r.val < 4 then
          (1#32, 128#32, 0#32)
        else
          (2#32, 0#32, 128#32)
      else
        if r.val < 6 then
          (2#32, 128#32, 0#32)
        else
          (3#32, 0#32, 128#32)
  else
    if r.val < 10 then
      if r.val < 8 then
        (3#32, 128#32, 0#32)
      else
        if r.val < 9 then
          (4#32, 0#32, 128#32)
        else
          (4#32, 128#32, 0#32)
    else
      if r.val < 12 then
        if r.val < 11 then
          (5#32, 0#32, 128#32)
        else
          (5#32, 128#32, 0#32)
      else
        if r.val < 13 then
          (6#32, 0#32, 128#32)
        else
          (6#32, 128#32, 0#32)
def k0_dev45 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1412 : BitVec 32 := 1#32
  let v1315 : BitVec 32 := Scalar.muli v54 c1_i32_1412
  let v1316 : BitVec 32 := Scalar.addi c0_i32_1413 v1315
  v1316.toNat
def k0_dev46 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1434 : BitVec 32 := 1#32
  let v1339 : BitVec 32 := Scalar.muli v56 c1_i32_1434
  let v1340 : BitVec 32 := Scalar.addi c0_i32_1435 v1339
  v1340.toNat
def k0_off13 (d0 : Dev nD) (c0_i32_69 : BitVec 32) (c128_i32 : BitVec 32) : Fin 3 → Nat :=
  let c3_i32_1458 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1465 : BitVec 32 := 0#32
  ![3, v79.toNat, 0]
def k0_off13_at (r : Fin 2) : BitVec 32 × BitVec 32 :=
  if r.val < 1 then
    (0#32, 128#32)
  else
    (128#32, 0#32)
def k0_dev47 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1463 : BitVec 32 := 1#32
  let v1370 : BitVec 32 := Scalar.muli v54 c1_i32_1463
  let v1371 : BitVec 32 := Scalar.addi c0_i32_1464 v1370
  v1371.toNat
def k0_off14 (d0 : Dev nD) (c0_i32_69 : BitVec 32) (c128_i32 : BitVec 32) : Fin 3 → Nat :=
  let c2_1467 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1380 : Index := Scalar.indexCast v79
  let c0_1468 : Index := 0#32
  ![2, v1380.toNat, 0]
def k0_off14_at (r : Fin 2) : BitVec 32 × BitVec 32 :=
  if r.val < 1 then
    (0#32, 128#32)
  else
    (128#32, 0#32)
def k0_dev48 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1487 : BitVec 32 := 1#32
  let v1396 : BitVec 32 := Scalar.muli v56 c1_i32_1487
  let v1397 : BitVec 32 := Scalar.addi c0_i32_1488 v1396
  v1397.toNat
def k0_dev49 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1511 : BitVec 32 := 1#32
  let v1422 : BitVec 32 := Scalar.muli v54 c1_i32_1511
  let v1423 : BitVec 32 := Scalar.addi c0_i32_1512 v1422
  v1423.toNat
def k0_dev50 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1535 : BitVec 32 := 1#32
  let v1448 : BitVec 32 := Scalar.muli v56 c1_i32_1535
  let v1449 : BitVec 32 := Scalar.addi c0_i32_1536 v1448
  v1449.toNat
def k0_off15 (d0 : Dev nD) (c0_i32_69 : BitVec 32) (c128_i32 : BitVec 32) : Fin 3 → Nat :=
  let c4_i32_1559 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1566 : BitVec 32 := 0#32
  ![4, v79.toNat, 0]
def k0_off15_at (r : Fin 2) : BitVec 32 × BitVec 32 :=
  if r.val < 1 then
    (0#32, 128#32)
  else
    (128#32, 0#32)
def k0_dev51 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1564 : BitVec 32 := 1#32
  let v1479 : BitVec 32 := Scalar.muli v54 c1_i32_1564
  let v1480 : BitVec 32 := Scalar.addi c0_i32_1565 v1479
  v1480.toNat
def k0_off16 (d0 : Dev nD) (c0_i32_69 : BitVec 32) (c128_i32 : BitVec 32) : Fin 3 → Nat :=
  let c3_1568 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1489 : Index := Scalar.indexCast v79
  let c0_1569 : Index := 0#32
  ![3, v1489.toNat, 0]
def k0_off16_at (r : Fin 2) : BitVec 32 × BitVec 32 :=
  if r.val < 1 then
    (0#32, 128#32)
  else
    (128#32, 0#32)
def k0_dev52 (d0 : Dev nD) : Nat :=
  let c0_i32_1589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1588 : BitVec 32 := 1#32
  let v1505 : BitVec 32 := Scalar.muli v56 c1_i32_1588
  let v1506 : BitVec 32 := Scalar.addi c0_i32_1589 v1505
  v1506.toNat
def k0_dev53 (d0 : Dev nD) : Nat :=
  let c0_i32_1613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1612 : BitVec 32 := 1#32
  let v1531 : BitVec 32 := Scalar.muli v54 c1_i32_1612
  let v1532 : BitVec 32 := Scalar.addi c0_i32_1613 v1531
  v1532.toNat
def k0_dev54 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1636 : BitVec 32 := 1#32
  let v1557 : BitVec 32 := Scalar.muli v56 c1_i32_1636
  let v1558 : BitVec 32 := Scalar.addi c0_i32_1637 v1557
  v1558.toNat
def k0_off17 (d0 : Dev nD) (c0_i32_69 : BitVec 32) (c128_i32 : BitVec 32) : Fin 3 → Nat :=
  let c5_i32_1660 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1667 : BitVec 32 := 0#32
  ![5, v79.toNat, 0]
def k0_off17_at (r : Fin 2) : BitVec 32 × BitVec 32 :=
  if r.val < 1 then
    (0#32, 128#32)
  else
    (128#32, 0#32)
def k0_dev55 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1665 : BitVec 32 := 1#32
  let v1588 : BitVec 32 := Scalar.muli v54 c1_i32_1665
  let v1589 : BitVec 32 := Scalar.addi c0_i32_1666 v1588
  v1589.toNat
def k0_off18 (d0 : Dev nD) (c0_i32_69 : BitVec 32) (c128_i32 : BitVec 32) : Fin 3 → Nat :=
  let c4_1669 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1598 : Index := Scalar.indexCast v79
  let c0_1670 : Index := 0#32
  ![4, v1598.toNat, 0]
def k0_off18_at (r : Fin 2) : BitVec 32 × BitVec 32 :=
  if r.val < 1 then
    (0#32, 128#32)
  else
    (128#32, 0#32)
def k0_dev56 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1689 : BitVec 32 := 1#32
  let v1614 : BitVec 32 := Scalar.muli v56 c1_i32_1689
  let v1615 : BitVec 32 := Scalar.addi c0_i32_1690 v1614
  v1615.toNat
def k0_dev57 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1713 : BitVec 32 := 1#32
  let v1640 : BitVec 32 := Scalar.muli v54 c1_i32_1713
  let v1641 : BitVec 32 := Scalar.addi c0_i32_1714 v1640
  v1641.toNat
def k0_dev58 (d0 : Dev nD) : Nat :=
  let c0_i32_1738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1737 : BitVec 32 := 1#32
  let v1666 : BitVec 32 := Scalar.muli v56 c1_i32_1737
  let v1667 : BitVec 32 := Scalar.addi c0_i32_1738 v1666
  v1667.toNat
def k0_off19 (d0 : Dev nD) (c0_i32_69 : BitVec 32) (c128_i32 : BitVec 32) : Fin 3 → Nat :=
  let c6_i32_1761 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1768 : BitVec 32 := 0#32
  ![6, v79.toNat, 0]
def k0_off19_at (r : Fin 2) : BitVec 32 × BitVec 32 :=
  if r.val < 1 then
    (0#32, 128#32)
  else
    (128#32, 0#32)
def k0_dev59 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1766 : BitVec 32 := 1#32
  let v1697 : BitVec 32 := Scalar.muli v54 c1_i32_1766
  let v1698 : BitVec 32 := Scalar.addi c0_i32_1767 v1697
  v1698.toNat
def k0_off20 (d0 : Dev nD) (c0_i32_69 : BitVec 32) (c128_i32 : BitVec 32) : Fin 3 → Nat :=
  let c5_1770 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1707 : Index := Scalar.indexCast v79
  let c0_1771 : Index := 0#32
  ![5, v1707.toNat, 0]
def k0_off20_at (r : Fin 2) : BitVec 32 × BitVec 32 :=
  if r.val < 1 then
    (0#32, 128#32)
  else
    (128#32, 0#32)
def k0_dev60 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1790 : BitVec 32 := 1#32
  let v1723 : BitVec 32 := Scalar.muli v56 c1_i32_1790
  let v1724 : BitVec 32 := Scalar.addi c0_i32_1791 v1723
  v1724.toNat
def k0_dev61 (d0 : Dev nD) : Nat :=
  let c0_i32_1815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1814 : BitVec 32 := 1#32
  let v1749 : BitVec 32 := Scalar.muli v54 c1_i32_1814
  let v1750 : BitVec 32 := Scalar.addi c0_i32_1815 v1749
  v1750.toNat
def k0_dev62 (d0 : Dev nD) : Nat :=
  let c0_i32_1839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1838 : BitVec 32 := 1#32
  let v1775 : BitVec 32 := Scalar.muli v56 c1_i32_1838
  let v1776 : BitVec 32 := Scalar.addi c0_i32_1839 v1775
  v1776.toNat
def k0_off21 (d0 : Dev nD) (c0_i32_69 : BitVec 32) (c128_i32 : BitVec 32) : Fin 3 → Nat :=
  let c7_i32_1862 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let c0_i32_1869 : BitVec 32 := 0#32
  ![7, v79.toNat, 0]
def k0_off21_at (r : Fin 2) : BitVec 32 × BitVec 32 :=
  if r.val < 1 then
    (0#32, 128#32)
  else
    (128#32, 0#32)
def k0_dev63 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1867 : BitVec 32 := 1#32
  let v1806 : BitVec 32 := Scalar.muli v54 c1_i32_1867
  let v1807 : BitVec 32 := Scalar.addi c0_i32_1868 v1806
  v1807.toNat
def k0_off22 (d0 : Dev nD) (c0_i32_69 : BitVec 32) (c128_i32 : BitVec 32) : Fin 3 → Nat :=
  let c6_1871 : Index := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1816 : Index := Scalar.indexCast v79
  let c0_1872 : Index := 0#32
  ![6, v1816.toNat, 0]
def k0_off22_at (r : Fin 2) : BitVec 32 × BitVec 32 :=
  if r.val < 1 then
    (0#32, 128#32)
  else
    (128#32, 0#32)
def k0_dev64 (d0 : Dev nD) : Nat :=
  let c0_i32_1892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1891 : BitVec 32 := 1#32
  let v1832 : BitVec 32 := Scalar.muli v56 c1_i32_1891
  let v1833 : BitVec 32 := Scalar.addi c0_i32_1892 v1832
  v1833.toNat
def k0_dev65 (d0 : Dev nD) : Nat :=
  let c0_i32_1916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_45 : BitVec 32 := 8#32
  let v53 : BitVec 32 := Scalar.muli v3 c8_i32_45
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_26 : BitVec 32 := 7#32
  let v35 : BitVec 1 := Scalar.cmpi .eq v20 c7_i32_26
  let c0_i32_27 : BitVec 32 := 0#32
  let c6_i32_24 : BitVec 32 := 6#32
  let v33 : BitVec 1 := Scalar.cmpi .eq v20 c6_i32_24
  let c1_i32_25 : BitVec 32 := 1#32
  let c5_i32_22 : BitVec 32 := 5#32
  let v31 : BitVec 1 := Scalar.cmpi .eq v20 c5_i32_22
  let c2_i32_23 : BitVec 32 := 2#32
  let c4_i32_20 : BitVec 32 := 4#32
  let v29 : BitVec 1 := Scalar.cmpi .eq v20 c4_i32_20
  let c5_i32_21 : BitVec 32 := 5#32
  let c3_i32_18 : BitVec 32 := 3#32
  let v27 : BitVec 1 := Scalar.cmpi .eq v20 c3_i32_18
  let c6_i32_19 : BitVec 32 := 6#32
  let c2_i32_16 : BitVec 32 := 2#32
  let v25 : BitVec 1 := Scalar.cmpi .eq v20 c2_i32_16
  let c7_i32_17 : BitVec 32 := 7#32
  let c1_i32_14 : BitVec 32 := 1#32
  let v23 : BitVec 1 := Scalar.cmpi .eq v20 c1_i32_14
  let c4_i32_15 : BitVec 32 := 4#32
  let c0_i32_11 : BitVec 32 := 0#32
  let v21 : BitVec 1 := Scalar.cmpi .eq v20 c0_i32_11
  let c3_i32_12 : BitVec 32 := 3#32
  let c0_i32_13 : BitVec 32 := 0#32
  let v22 : BitVec 32 := Scalar.select v21 c3_i32_12 c0_i32_13
  let v24 : BitVec 32 := Scalar.select v23 c4_i32_15 v22
  let v26 : BitVec 32 := Scalar.select v25 c7_i32_17 v24
  let v28 : BitVec 32 := Scalar.select v27 c6_i32_19 v26
  let v30 : BitVec 32 := Scalar.select v29 c5_i32_21 v28
  let v32 : BitVec 32 := Scalar.select v31 c2_i32_23 v30
  let v34 : BitVec 32 := Scalar.select v33 c1_i32_25 v32
  let v36 : BitVec 32 := Scalar.select v35 c0_i32_27 v34
  let v54 : BitVec 32 := Scalar.addi v53 v36
  let c1_i32_1915 : BitVec 32 := 1#32
  let v1858 : BitVec 32 := Scalar.muli v54 c1_i32_1915
  let v1859 : BitVec 32 := Scalar.addi c0_i32_1916 v1858
  v1859.toNat
def k0_dev66 (d0 : Dev nD) : Nat :=
  let c0_i32_1940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_46 : BitVec 32 := 8#32
  let v55 : BitVec 32 := Scalar.muli v3 c8_i32_46
  let c8_i32_0 : BitVec 32 := 8#32
  let v4 : BitVec 32 := Scalar.remsi v2 c8_i32_0
  let c7_i32_9 : BitVec 32 := 7#32
  let v19 : BitVec 1 := Scalar.cmpi .eq v4 c7_i32_9
  let c3_i32_10 : BitVec 32 := 3#32
  let c6_i32_7 : BitVec 32 := 6#32
  let v17 : BitVec 1 := Scalar.cmpi .eq v4 c6_i32_7
  let c4_i32_8 : BitVec 32 := 4#32
  let c5_i32 : BitVec 32 := 5#32
  let v15 : BitVec 1 := Scalar.cmpi .eq v4 c5_i32
  let c5_i32_6 : BitVec 32 := 5#32
  let c4_i32 : BitVec 32 := 4#32
  let v13 : BitVec 1 := Scalar.cmpi .eq v4 c4_i32
  let c2_i32_5 : BitVec 32 := 2#32
  let c3_i32 : BitVec 32 := 3#32
  let v11 : BitVec 1 := Scalar.cmpi .eq v4 c3_i32
  let c1_i32_4 : BitVec 32 := 1#32
  let c2_i32 : BitVec 32 := 2#32
  let v9 : BitVec 1 := Scalar.cmpi .eq v4 c2_i32
  let c6_i32 : BitVec 32 := 6#32
  let c1_i32_3 : BitVec 32 := 1#32
  let v7 : BitVec 1 := Scalar.cmpi .eq v4 c1_i32_3
  let c7_i32 : BitVec 32 := 7#32
  let c0_i32 : BitVec 32 := 0#32
  let v5 : BitVec 1 := Scalar.cmpi .eq v4 c0_i32
  let c0_i32_1 : BitVec 32 := 0#32
  let c0_i32_2 : BitVec 32 := 0#32
  let v6 : BitVec 32 := Scalar.select v5 c0_i32_1 c0_i32_2
  let v8 : BitVec 32 := Scalar.select v7 c7_i32 v6
  let v10 : BitVec 32 := Scalar.select v9 c6_i32 v8
  let v12 : BitVec 32 := Scalar.select v11 c1_i32_4 v10
  let v14 : BitVec 32 := Scalar.select v13 c2_i32_5 v12
  let v16 : BitVec 32 := Scalar.select v15 c5_i32_6 v14
  let v18 : BitVec 32 := Scalar.select v17 c4_i32_8 v16
  let v20 : BitVec 32 := Scalar.select v19 c3_i32_10 v18
  let c7_i32_43 : BitVec 32 := 7#32
  let v51 : BitVec 1 := Scalar.cmpi .eq v20 c7_i32_43
  let c2_i32_44 : BitVec 32 := 2#32
  let c6_i32_41 : BitVec 32 := 6#32
  let v49 : BitVec 1 := Scalar.cmpi .eq v20 c6_i32_41
  let c5_i32_42 : BitVec 32 := 5#32
  let c5_i32_39 : BitVec 32 := 5#32
  let v47 : BitVec 1 := Scalar.cmpi .eq v20 c5_i32_39
  let c6_i32_40 : BitVec 32 := 6#32
  let c4_i32_37 : BitVec 32 := 4#32
  let v45 : BitVec 1 := Scalar.cmpi .eq v20 c4_i32_37
  let c7_i32_38 : BitVec 32 := 7#32
  let c3_i32_35 : BitVec 32 := 3#32
  let v43 : BitVec 1 := Scalar.cmpi .eq v20 c3_i32_35
  let c4_i32_36 : BitVec 32 := 4#32
  let c2_i32_33 : BitVec 32 := 2#32
  let v41 : BitVec 1 := Scalar.cmpi .eq v20 c2_i32_33
  let c3_i32_34 : BitVec 32 := 3#32
  let c1_i32_31 : BitVec 32 := 1#32
  let v39 : BitVec 1 := Scalar.cmpi .eq v20 c1_i32_31
  let c0_i32_32 : BitVec 32 := 0#32
  let c0_i32_28 : BitVec 32 := 0#32
  let v37 : BitVec 1 := Scalar.cmpi .eq v20 c0_i32_28
  let c1_i32_29 : BitVec 32 := 1#32
  let c0_i32_30 : BitVec 32 := 0#32
  let v38 : BitVec 32 := Scalar.select v37 c1_i32_29 c0_i32_30
  let v40 : BitVec 32 := Scalar.select v39 c0_i32_32 v38
  let v42 : BitVec 32 := Scalar.select v41 c3_i32_34 v40
  let v44 : BitVec 32 := Scalar.select v43 c4_i32_36 v42
  let v46 : BitVec 32 := Scalar.select v45 c7_i32_38 v44
  let v48 : BitVec 32 := Scalar.select v47 c6_i32_40 v46
  let v50 : BitVec 32 := Scalar.select v49 c5_i32_42 v48
  let v52 : BitVec 32 := Scalar.select v51 c2_i32_44 v50
  let v56 : BitVec 32 := Scalar.addi v55 v52
  let c1_i32_1939 : BitVec 32 := 1#32
  let v1884 : BitVec 32 := Scalar.muli v56 c1_i32_1939
  let v1885 : BitVec 32 := Scalar.addi c0_i32_1940 v1884
  v1885.toNat
def k0_off23 (d0 : Dev nD) (c0_i32_69 : BitVec 32) (c128_i32 : BitVec 32) : Fin 3 → Nat :=
  let c7_1962 : Index := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_67 : BitVec 32 := 2#32
  let v77 : BitVec 32 := Scalar.remsi v3 c2_i32_67
  let c0_i32_68 : BitVec 32 := 0#32
  let v78 : BitVec 1 := Scalar.cmpi .eq v77 c0_i32_68
  let v79 : BitVec 32 := Scalar.select v78 c0_i32_69 c128_i32
  let v1915 : Index := Scalar.indexCast v79
  let c0_1963 : Index := 0#32
  ![7, v1915.toNat, 0]
def k0_off23_at (r : Fin 2) : BitVec 32 × BitVec 32 :=
  if r.val < 1 then
    (0#32, 128#32)
  else
    (128#32, 0#32)
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Clean.lean ====
/- The kernel's body as a short program: the same operations in the same order, written over the
   families (direction, step, half) the printed body spells out one by one. -/
module

public import proofs.«01_k».proof.Proof.Gen.KernelIdeal.Points
public import proofs.«01_k».proof.Proof.Gen.KernelIdeal.Skeleton
public import proofs.«01_k».proof.Proof.Gen.KernelIdeal.Launch

@[expose] public section

set_option maxRecDepth 16384

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-! ## Buffers -/

/-- A memory reference of a TensorCore in vector memory. -/
abbrev VM (s : Shape) (e : EltTy) := Memref sig .tc .vmem s e

abbrev xM : VM S2048x64 .bf16 := win0_0.stage (cfg0.slots t0_0 0)
abbrev wM : VM S64x2048 .bf16 := win0_1.stage (cfg0.slots t0_0 1)
abbrev oM : VM S2048x2048 .f32 := win0_2.stage (cfg0.slots t0_0 2)

/-- The table of local partial products, per direction. -/
def relB (d : Fin 2) : VM S2048x1024 .f32 := ![Memref.whole cc0_scratch0, Memref.whole cc0_scratch1] d
/-- The landing slots of the reduce ring, per direction. -/
def aB (d : Fin 2) : VM S8x2x128x1024 .bf16 := ![Memref.whole cc0_scratch2, Memref.whole cc0_scratch3] d
/-- The landing slots of the gather ring, per direction. -/
def cB (d : Fin 2) : VM S8x256x1024 .bf16 := ![Memref.whole cc0_scratch4, Memref.whole cc0_scratch5] d
/-- The device's own rows, per direction. -/
def ownB (d : Fin 2) : VM S256x1024 .f32 := ![Memref.whole cc0_scratch6, Memref.whole cc0_scratch7] d
/-- Sources of the copies between planes. -/
def zSrc (i : Fin 6) : VM S128x1024 .bf16 :=
  ![Memref.whole cc0_scratch8, Memref.whole cc0_scratch10, Memref.whole cc0_scratch12,
    Memref.whole cc0_scratch14, Memref.whole cc0_scratch16, Memref.whole cc0_scratch18] i
/-- Destinations of the copies between planes. -/
def zDst (i : Fin 6) : VM S128x1024 .bf16 :=
  ![Memref.whole cc0_scratch9, Memref.whole cc0_scratch11, Memref.whole cc0_scratch13,
    Memref.whole cc0_scratch15, Memref.whole cc0_scratch17, Memref.whole cc0_scratch19] i

theorem whole2 {s : Shape} {e : EltTy} {a b : VM s e} (ha : a.IsWhole) (hb : b.IsWhole) :
    ∀ d : Fin 2, ((![a, b] : Fin 2 → VM s e) d).IsWhole
  | 0 => ha
  | 1 => hb

theorem relB_whole (d : Fin 2) : (relB d).IsWhole :=
  whole2 (Memref.isWhole_whole cc0_scratch0) (Memref.isWhole_whole cc0_scratch1) d
theorem aB_whole (d : Fin 2) : (aB d).IsWhole :=
  whole2 (Memref.isWhole_whole cc0_scratch2) (Memref.isWhole_whole cc0_scratch3) d
theorem cB_whole (d : Fin 2) : (cB d).IsWhole :=
  whole2 (Memref.isWhole_whole cc0_scratch4) (Memref.isWhole_whole cc0_scratch5) d
theorem ownB_whole (d : Fin 2) : (ownB d).IsWhole :=
  whole2 (Memref.isWhole_whole cc0_scratch6) (Memref.isWhole_whole cc0_scratch7) d

theorem zSrc_whole : ∀ i : Fin 6, (zSrc i).IsWhole
  | 0 => Memref.isWhole_whole cc0_scratch8
  | 1 => Memref.isWhole_whole cc0_scratch10
  | 2 => Memref.isWhole_whole cc0_scratch12
  | 3 => Memref.isWhole_whole cc0_scratch14
  | 4 => Memref.isWhole_whole cc0_scratch16
  | 5 => Memref.isWhole_whole cc0_scratch18
theorem zDst_whole : ∀ i : Fin 6, (zDst i).IsWhole
  | 0 => Memref.isWhole_whole cc0_scratch9
  | 1 => Memref.isWhole_whole cc0_scratch11
  | 2 => Memref.isWhole_whole cc0_scratch13
  | 3 => Memref.isWhole_whole cc0_scratch15
  | 4 => Memref.isWhole_whole cc0_scratch17
  | 5 => Memref.isWhole_whole cc0_scratch19

/-! ## Row selectors -/

/-- Selector pair of the half sent first, in the reduce phase. -/
def selA (j : Fin 2) : BitVec 32 × BitVec 32 := ![(128#32, 0#32), (0#32, 128#32)] j
/-- Selector pair of the half kept, in the gather phase. -/
def selC (j : Fin 2) : BitVec 32 × BitVec 32 := ![(0#32, 128#32), (128#32, 0#32)] j

/-! ## Slots of the reduce ring -/

theorem aOff_inb : ∀ (s : Fin 8) (j : Fin 2), ∀ a, (![s.val, j.val, 0, 0] : Fin 4 → Nat) a + S1x1x128x1024.size a ≤ S8x2x128x1024.size a := by
  decide +kernel
/-- The rectangle of a reduce slot. -/
abbrev aR (s : Fin 8) (j : Fin 2) : Rect S8x2x128x1024 :=
  Rect.unit (s := S8x2x128x1024) ![s.val, j.val, 0, 0] S1x1x128x1024.size (aOff_inb s j)
theorem aR_words : ∀ (s : Fin 8) (j : Fin 2), (aR s j).WholeWords (EltTy.packing .bf16) := by decide +kernel
theorem aR_packed : ∀ (s : Fin 8) (j : Fin 2), (aR s j).PackedRows (EltTy.packing .bf16) := by decide +kernel
/-- A reduce slot. -/
abbrev aSlot (d : Fin 2) (s : Fin 8) (j : Fin 2) : VM S128x1024 .bf16 :=
  ((aB d).slice (aR s j) (fun _ => rfl)).squeeze S128x1024 squeezes_S1x1x128x1024_S128x1024

/-! ## Slots of the gather ring -/

/-- The offset of the gather slot written at hop `h`, as the copies compute it. -/
def cOff (h : Fin 7) (j : Fin 2) (c : Dev nD) : Fin 3 → Nat :=
  (![k0_off6, k0_off9, k0_off13, k0_off15, k0_off17, k0_off19, k0_off21] h) c (selC j).1 (selC j).2
/-- The same offset as the loads compute it. -/
def lOff (h : Fin 7) (j : Fin 2) (c : Dev nD) : Fin 3 → Nat :=
  (![k0_off10, k0_off14, k0_off16, k0_off18, k0_off20, k0_off22, k0_off23] h) c (selC j).1 (selC j).2

theorem cOff_inb : ∀ (h : Fin 7) (j : Fin 2) (c : Dev nD), ∀ a, cOff h j c a + S1x128x1024.size a ≤ S8x256x1024.size a := by
  decide +kernel
theorem lOff_eq : ∀ (h : Fin 7) (j : Fin 2) (c : Dev nD), lOff h j c = cOff h j c := by decide +kernel
theorem lOff_inb (h : Fin 7) (j : Fin 2) (c : Dev nD) : ∀ a, lOff h j c a + S1x128x1024.size a ≤ S8x256x1024.size a :=
  lOff_eq h j c ▸ cOff_inb h j c
/-- The rectangle of a gather slot. -/
abbrev cR (h : Fin 7) (j : Fin 2) (c : Dev nD) : Rect S8x256x1024 :=
  Rect.unit (s := S8x256x1024) (cOff h j c) S1x128x1024.size (cOff_inb h j c)
abbrev lR (h : Fin 7) (j : Fin 2) (c : Dev nD) : Rect S8x256x1024 :=
  Rect.unit (s := S8x256x1024) (lOff h j c) S1x128x1024.size (lOff_inb h j c)
theorem cR_words : ∀ (h : Fin 7) (j : Fin 2) (c : Dev nD), (cR h j c).WholeWords (EltTy.packing .bf16) := by decide +kernel
/-- A gather slot. -/
abbrev cSlot (d : Fin 2) (h : Fin 7) (j : Fin 2) (c : Dev nD) : VM S128x1024 .bf16 :=
  ((cB d).slice (cR h j c) (fun _ => rfl)).squeeze S128x1024 squeezes_S1x128x1024_S128x1024

/-! ## Other rectangles -/

/-- Rows of the local block first reduced, a half. -/
abbrev xOff (j : Fin 2) (c : Dev nD) : Fin 2 → Nat := k0_off1 c (selA j).1 (selA j).2
theorem xOff_inb : ∀ (j : Fin 2) (c : Dev nD), ∀ a, xOff j c a + S128x64.size a ≤ S2048x64.size a := by decide +kernel
/-- Rows of the local block added at ring step `k`. -/
def rOff (d : Fin 2) (k : Fin 8) (c : Dev nD) : Fin 2 → Nat := (![k0_off2, k0_off3] d) c (BitVec.ofNat 32 k.val)
theorem rOff_inb : ∀ (d : Fin 2) (k : Fin 8) (c : Dev nD), ∀ a, rOff d k c a + S256x64.size a ≤ S2048x64.size a := by decide +kernel
/-- Rows of the table at ring step `k`. -/
abbrev tOff (k : Fin 8) : Fin 2 → Nat := ![256 * k.val, 0]
theorem tOff_inb : ∀ (k : Fin 8), ∀ a, tOff k a + S256x1024.size a ≤ S2048x1024.size a := by decide +kernel
/-- Half of the table's rows at ring step `s + 1`. -/
def hOff (s : Fin 7) (j : Fin 2) (c : Dev nD) : Fin 2 → Nat :=
  k0_off4 c (BitVec.ofNat 32 (256 * (s.val + 1))) (selA j).1 (selA j).2
theorem hOff_inb : ∀ (s : Fin 7) (j : Fin 2) (c : Dev nD), ∀ a, hOff s j c a + S128x1024.size a ≤ S2048x1024.size a := by decide +kernel
/-- Half of the own rows. -/
def wOff (j : Fin 2) (c : Dev nD) : Fin 2 → Nat := k0_off5 c (selA j).1 (selA j).2
theorem wOff_inb : ∀ (j : Fin 2) (c : Dev nD), ∀ a, wOff j c a + S128x1024.size a ≤ S256x1024.size a := by decide +kernel
/-- The tile of the result the device's own plane column finishes. -/
def fOff (d : Fin 2) (j : Fin 2) (c : Dev nD) : Fin 2 → Nat := (![k0_off7, k0_off8] d) c (selC j).1 (selC j).2
theorem fOff_inb : ∀ (d : Fin 2) (j : Fin 2) (c : Dev nD), ∀ a, fOff d j c a + S128x1024.size a ≤ S2048x2048.size a := by decide +kernel
/-- The tile of the result received at hop `h`. -/
def gOff (d : Fin 2) (h : Fin 7) (j : Fin 2) (c : Dev nD) : Fin 2 → Nat :=
  (![k0_off11, k0_off12] d) c (BitVec.ofNat 32 h.val) (selC j).1 (selC j).2
theorem gOff_inb : ∀ (d : Fin 2) (h : Fin 7) (j : Fin 2) (c : Dev nD), ∀ a, gOff d h j c a + S128x1024.size a ≤ S2048x2048.size a := by decide +kernel

/-! ## Semaphores -/

def aSS (d : Fin 2) : DmaSems sig S7x2 := ![cc0_scratch20, cc0_scratch22] d
def aRS (d : Fin 2) : DmaSems sig S7x2 := ![cc0_scratch21, cc0_scratch23] d
def cSS (d : Fin 2) : DmaSems sig S7x2 := ![cc0_scratch26, cc0_scratch28] d
def cRS (d : Fin 2) : DmaSems sig S7x2 := ![cc0_scratch27, cc0_scratch29] d

theorem sem_inb : ∀ (s : Fin 7) (j : Fin 2), ∀ a, (![s.val, j.val] : Fin 2 → Nat) a + S1x1.size a ≤ S7x2.size a := by decide
theorem zsem_inb : ∀ (i : Fin 6), ∀ a, (![i.val] : Fin 1 → Nat) a + S1.size a ≤ S8.size a := by decide
/-- One semaphore of a ring's array. -/
abbrev sem2 (a : DmaSems sig S7x2) (s : Fin 7) (j : Fin 2) : DmaSem sig :=
  ((a.slice (Rect.unit (s := S7x2) ![s.val, j.val] S1x1.size (sem_inb s j))).squeeze S_ squeezes_S1x1_S_).sem
/-- One semaphore of the plane array. -/
abbrev sem1 (a : DmaSems sig S8) (i : Fin 6) : DmaSem sig :=
  ((a.slice (Rect.unit (s := S8) ![i.val] S1.size (zsem_inb i))).squeeze S_ squeezes_S1_S_).sem

/-! ## The copies -/

/-- The remote copies of one device: the reduce ring (direction, step, half), the plane exchanges,
    the gather ring (direction, hop, half). -/
inductive Ck
  | A (d : Fin 2) (s : Fin 7) (j : Fin 2)
  | Z (i : Fin 6)
  | C (d : Fin 2) (h : Fin 7) (j : Fin 2)
deriving DecidableEq

/-- The copies as a sum of three finite families. -/
def Ck.equiv : (Fin 2 × Fin 7 × Fin 2) ⊕ Fin 6 ⊕ (Fin 2 × Fin 7 × Fin 2) ≃ Ck where
  toFun
    | .inl (d, s, j) => .A d s j
    | .inr (.inl i) => .Z i
    | .inr (.inr (d, h, j)) => .C d h j
  invFun
    | .A d s j => .inl (d, s, j)
    | .Z i => .inr (.inl i)
    | .C d h j => .inr (.inr (d, h, j))
  left_inv := by rintro (⟨d, s, j⟩ | i | ⟨d, h, j⟩) <;> rfl
  right_inv := by rintro (⟨d, s, j⟩ | i | ⟨d, h, j⟩) <;> rfl

instance : Fintype Ck := Fintype.ofEquiv _ Ck.equiv

/-- The position of a copy among the kernel's device computations. -/
def Ck.num : Ck → Fin 62
  | .A d s j => ⟨4 * s.val + 2 * j.val + d.val, by omega⟩
  | .Z i => ⟨![28, 29, 30, 31, 32, 34] i, by revert i; decide⟩
  | .C d ⟨0, _⟩ j => ⟨![![33, 36], ![35, 37]] d j, by revert d j; decide⟩
  | .C d ⟨h + 1, hh⟩ j => ⟨38 + 4 * h + 2 * j.val + d.val, by omega⟩

/-- The printed target of each copy. -/
def devTab : Fin 62 → Dev nD → Nat :=
  ![k0_dev5, k0_dev6, k0_dev7, k0_dev8, k0_dev9, k0_dev10, k0_dev11, k0_dev12, k0_dev13, k0_dev14,
    k0_dev15, k0_dev16, k0_dev17, k0_dev18, k0_dev19, k0_dev20, k0_dev21, k0_dev22, k0_dev23, k0_dev24,
    k0_dev25, k0_dev26, k0_dev27, k0_dev28, k0_dev29, k0_dev30, k0_dev31, k0_dev32, k0_dev33, k0_dev34,
    k0_dev35, k0_dev36, k0_dev37, k0_dev38, k0_dev39, k0_dev40, k0_dev41, k0_dev42, k0_dev43, k0_dev44,
    k0_dev45, k0_dev46, k0_dev47, k0_dev48, k0_dev49, k0_dev50, k0_dev51, k0_dev52, k0_dev53, k0_dev54,
    k0_dev55, k0_dev56, k0_dev57, k0_dev58, k0_dev59, k0_dev60, k0_dev61, k0_dev62, k0_dev63, k0_dev64,
    k0_dev65, k0_dev66]
theorem devTab_lt : ∀ i c, devTab i c < nD := by decide +kernel
/-- The device a copy of device `c` goes to, as printed. -/
def tgtP (k : Ck) (c : Dev nD) : Dev nD := ⟨devTab k.num c, devTab_lt k.num c⟩

/-- Source of the gather ring's first copies. -/
def src0 (d j : Fin 2) : VM S128x1024 .bf16 := ![![zSrc 4, zDst 4], ![zSrc 5, zDst 5]] d j
theorem src0_whole : ∀ d j : Fin 2, (src0 d j).IsWhole
  | 0, 0 => zSrc_whole 4
  | 0, 1 => zDst_whole 4
  | 1, 0 => zSrc_whole 5
  | 1, 1 => zDst_whole 5

/-- Source of a copy. -/
def src : Ck → Dev nD → VM S128x1024 .bf16
  | .A d s j, _ => aSlot d s.castSucc j
  | .Z i, _ => zSrc i
  | .C d ⟨0, _⟩ j, _ => src0 d j
  | .C d ⟨h + 1, hh⟩ j, c => cSlot d ⟨h, by omega⟩ j c
/-- Destination of a copy, on the target. -/
def dst : Ck → Dev nD → VM S128x1024 .bf16
  | .A d s j, _ => aSlot d s.succ j
  | .Z i, _ => zDst i
  | .C d h j, c => cSlot d h j c
def sendS : Ck → DmaSem sig
  | .A d s j => sem2 (aSS d) s j
  | .Z i => sem1 cc0_scratch24 i
  | .C d h j => sem2 (cSS d) h j
def recvS : Ck → DmaSem sig
  | .A d s j => sem2 (aRS d) s j
  | .Z i => sem1 cc0_scratch25 i
  | .C d h j => sem2 (cRS d) h j

theorem aSlot_words (d : Fin 2) (s : Fin 8) (j : Fin 2) : (aSlot d s j).view.WordExact :=
  ((aB_whole d).wordExact_slice rfl _ (aR_words s j)).reshape _ _
theorem cSlot_words (d : Fin 2) (h : Fin 7) (j : Fin 2) (c : Dev nD) : (cSlot d h j c).view.WordExact :=
  ((cB_whole d).wordExact_slice rfl _ (cR_words h j c)).reshape _ _

theorem src_words : ∀ (k : Ck) (c : Dev nD), (src k c).view.WordExact
  | .A d s j, _ => aSlot_words d s.castSucc j
  | .Z i, _ => (zSrc_whole i).wordExact
  | .C d ⟨0, _⟩ j, _ => (src0_whole d j).wordExact
  | .C d ⟨h + 1, hh⟩ j, c => cSlot_words d ⟨h, by omega⟩ j c
theorem dst_words : ∀ (k : Ck) (c : Dev nD), (dst k c).view.WordExact
  | .A d s j, _ => aSlot_words d s.succ j
  | .Z i, _ => (zDst_whole i).wordExact
  | .C d h j, c => cSlot_words d h j c
theorem dst_sc : ∀ (k : Ck) (c : Dev nD), (dst k c).view.ref.isScScratch = false
  | .A 0 s j, _ => rfl
  | .A 1 s j, _ => rfl
  | .Z 0, _ => rfl
  | .Z 1, _ => rfl
  | .Z 2, _ => rfl
  | .Z 3, _ => rfl
  | .Z 4, _ => rfl
  | .Z 5, _ => rfl
  | .C 0 h j, c => rfl
  | .C 1 h j, c => rfl

/-! ## Values -/

theorem half_slices : ∀ d : Fin 2, S64x2048.Slices ((![![0, 0], ![0, 1024]] : Fin 2 → Fin 2 → Nat) d) S64x1024 := by decide
/-- The columns of the weights a direction works on. -/
def wCols (d : Fin 2) (w : Vec F S64x2048 .bf16) : FVec F S64x1024 .bf16 :=
  extractStridedSlice S64x1024 ((![![0, 0], ![0, 1024]] : Fin 2 → Fin 2 → Nat) d)
    (shapeCast S64x2048 w shapeCasts_S64x2048_S64x2048) (half_slices d)
/-- A half block's product, rounded. -/
def pInit (d : Fin 2) (w : Vec F S64x2048 .bf16) (x : Vec F S128x64 .bf16) : FVec F S128x1024 .bf16 :=
  truncf .bf16 (matmul dot_S128x64_S64x1024_S128x1024_1_0_0_1_n_n none (shapeCast S128x64 x shapeCasts_S128x64_S128x64)
    (wCols d w) (constant S128x1024 .f32 0x00000000#32)) bitsLt_bf16_f32
/-- A block's product. -/
def pRel (d : Fin 2) (w : Vec F S64x2048 .bf16) (x : Vec F S256x64 .bf16) : FVec F S256x1024 .f32 :=
  shapeCast S256x1024 (matmul dot_S256x64_S64x1024_S256x1024_1_0_0_1_n_n none (shapeCast S256x64 x shapeCasts_S256x64_S256x64)
    (wCols d w) (constant S256x1024 .f32 0x00000000#32)) shapeCasts_S256x1024_S256x1024
/-- A received half block read from its slot's rectangle. -/
def rd4 (v : Vec F S1x1x128x1024 .bf16) : FVec F S128x1024 .bf16 := shapeCast S128x1024 v shapeCasts_S1x1x128x1024_S128x1024
def wr4 (v : FVec F S128x1024 .bf16) : FVec F S1x1x128x1024 .bf16 := shapeCast S1x1x128x1024 v shapeCasts_S128x1024_S1x1x128x1024
/-- A partial sum: the received half block and the local product. -/
def pAdd (v : FVec F S128x1024 .bf16) (r : FVec F S128x1024 .f32) : FVec F S128x1024 .f32 :=
  addf (extf .f32 v bitsLt_bf16_f32) r
def pTr (v : FVec F S128x1024 .f32) : FVec F S128x1024 .bf16 := truncf .bf16 v bitsLt_bf16_f32
def pEx (v : FVec F S128x1024 .bf16) : FVec F S128x1024 .f32 := extf .f32 v bitsLt_bf16_f32
def sc32 (v : FVec F S128x1024 .f32) : FVec F S128x1024 .f32 := shapeCast S128x1024 v shapeCasts_S128x1024_S128x1024
def sc16 (v : FVec F S128x1024 .bf16) : FVec F S128x1024 .bf16 := shapeCast S128x1024 v shapeCasts_S128x1024_S128x1024
/-- The sum over two planes. -/
def pSum (a : FVec F S128x1024 .f32) (v : FVec F S128x1024 .bf16) : FVec F S128x1024 .f32 :=
  addf a (extf .f32 v bitsLt_bf16_f32)
/-- The clamp at zero. -/
def pRelu (a : FVec F S128x1024 .f32) : FVec F S128x1024 .f32 :=
  maximumf a (broadcast S128x1024 (Scalar.ofBits .f32 0x00000000#32))
def rd3 (v : Vec F S1x128x1024 .bf16) : FVec F S128x1024 .bf16 := shapeCast S128x1024 v shapeCasts_S1x128x1024_S128x1024

/-! ## The program -/

variable (F) in
abbrev P0 (α : Type) := Prog (TpuEff nD τ sig (Elt F) Λ₀ .tc) α

/-- Load a rectangle of a buffer. -/
abbrev ld {s : Shape} {e : EltTy} (m : VM s e) (r : Rect s) (h : 0 < r.shape.numel) : P0 F (Vec F r.shape e) :=
  Prog.lift (.load m r.toLoadRect (View.loadsAt_vmem h))
/-- Store a rectangle of a buffer of 32-bit elements. -/
abbrev st32 {s : Shape} (m : VM s .f32) (r : Rect s) (h : 0 < r.shape.numel) (v : Vec F r.shape .f32) : P0 F PUnit :=
  Prog.lift (.store m r v Finset.univ (View.stores_vmem_bits_univ h rfl) (.inl rfl))
/-- Store a rectangle of a whole buffer of 16-bit elements. -/
abbrev st16 {s : Shape} (m : VM s .bf16) (hm : m.IsWhole) (r : Rect s) (h : 0 < r.shape.numel)
    (hp : r.PackedRows (EltTy.packing .bf16)) (v : Vec F r.shape .bf16) : P0 F PUnit :=
  Prog.lift (.store m r v Finset.univ (View.stores_vmem h (hm.storeExact_slice rfl _ hp) (fun _ => rfl)) (.inl rfl))
/-- The whole of a half-block buffer. -/
abbrev fullR : Rect S128x1024 := Rect.unit (s := S128x1024) ![0, 0] S128x1024.size inb_S128x1024_S128x1024_0_0
abbrev ldF {e : EltTy} (m : VM S128x1024 e) : P0 F (Vec F S128x1024 e) := ld m fullR h_S128x1024
abbrev stF (m : VM S128x1024 .bf16) (hm : m.IsWhole) (v : Vec F S128x1024 .bf16) : P0 F PUnit :=
  st16 m hm fullR h_S128x1024 packedbf16_S128x1024_S128x1024_0_0 v

/-- Start a copy. -/
def sendP (k : Ck) (c : Dev nD) : P0 F PUnit :=
  Prog.lift (.enqueueDma (src k c) (.remote (Dev.tc (tgtP k c)) (dst k c) (.dma (sendS k)) (dst_sc k c)) (.dma (recvS k))
    (src_words k c) (dst_words k c) ⟨⟨rfl, Or.inl rfl⟩, trivial⟩)
/-- Wait for a copy to have landed here. -/
def waitR (k : Ck) (c : Dev nD) : P0 F PUnit :=
  Prog.lift (.waitDma2 (recvS k) (src k c) (dst k c) (src_words k c) (dst_words k c))
/-- Wait for an own copy to have been read. -/
def waitS (k : Ck) (c : Dev nD) : P0 F PUnit :=
  Prog.lift (.waitDma2 (sendS k) (dst k c) (src k c) (dst_words k c) (src_words k c))

/-- Run a step for each member of a list, then go on. -/
def forL {ι : Type} (l : List ι) (f : ι → P0 F PUnit) (k : P0 F PUnit) : P0 F PUnit :=
  l.foldr (fun i r => f i >>= fun _ => r) k

/-- The barrier semaphore. -/
abbrev barS : Sems sig S_ := SemArray.scalar (sig.barrier 0 rfl)

/-- The barrier: one unit to each of the four neighbours, then four units back. -/
def barP (c : Dev nD) : P0 F PUnit := do
  semSignalWord (⟨k0_dev1 c, k0_dev1_lt c⟩ : Dev nD) barS.sem 1#32
  semSignalWord (⟨k0_dev2 c, k0_dev2_lt c⟩ : Dev nD) barS.sem 1#32
  semSignalWord (⟨k0_dev3 c, k0_dev3_lt c⟩ : Dev nD) barS.sem 1#32
  semSignalWord (⟨k0_dev4 c, k0_dev4_lt c⟩ : Dev nD) barS.sem 1#32
  semWaitWord barS.sem 4#32

/-- First products of a half: into slot 0 of each direction, then on to the neighbours. -/
def initP (c : Dev nD) (w : Vec F S64x2048 .bf16) (j : Fin 2) : P0 F PUnit := do
  let x ← ld xM (Rect.unit (s := S2048x64) (xOff j c) S128x64.size (xOff_inb j c)) h_S128x64
  let _ ← ld (aB 0) (aR 0 j) h_S1x1x128x1024
  st16 (aB 0) (aB_whole 0) (aR 0 j) h_S1x1x128x1024 (aR_packed 0 j) (wr4 (pInit 0 w x))
  let _ ← ld (aB 1) (aR 0 j) h_S1x1x128x1024
  st16 (aB 1) (aB_whole 1) (aR 0 j) h_S1x1x128x1024 (aR_packed 0 j) (wr4 (pInit 1 w x))
  sendP (.A 0 0 j) c
  sendP (.A 1 0 j) c

/-- The local products of ring step `k`. -/
def relP (c : Dev nD) (w : Vec F S64x2048 .bf16) (k : Fin 8) : P0 F PUnit := do
  let x ← ld xM (Rect.unit (s := S2048x64) (rOff 0 k c) S256x64.size (rOff_inb 0 k c)) h_S256x64
  let y ← ld xM (Rect.unit (s := S2048x64) (rOff 1 k c) S256x64.size (rOff_inb 1 k c)) h_S256x64
  let _ ← ld (relB 0) (Rect.unit (s := S2048x1024) (tOff k) S256x1024.size (tOff_inb k)) h_S256x1024
  st32 (relB 0) (Rect.unit (s := S2048x1024) (tOff k) S256x1024.size (tOff_inb k)) h_S256x1024 (pRel 0 w x)
  let _ ← ld (relB 1) (Rect.unit (s := S2048x1024) (tOff k) S256x1024.size (tOff_inb k)) h_S256x1024
  st32 (relB 1) (Rect.unit (s := S2048x1024) (tOff k) S256x1024.size (tOff_inb k)) h_S256x1024 (pRel 1 w y)

/-- The rectangle of the table's half rows at step `s`. -/
abbrev hR (s : Fin 7) (j : Fin 2) (c : Dev nD) : Rect S2048x1024 :=
  Rect.unit (s := S2048x1024) (hOff s j c) S128x1024.size (hOff_inb s j c)
/-- The rectangle of the own rows' half. -/
abbrev wR (j : Fin 2) (c : Dev nD) : Rect S256x1024 :=
  Rect.unit (s := S256x1024) (wOff j c) S128x1024.size (wOff_inb j c)

/-- A step of the reduce ring: take in the half block, add the local product, pass on. -/
def accP (c : Dev nD) (i : Fin 6 × Fin 2 × Fin 2) : P0 F PUnit := do
  waitR (.A i.2.2 i.1.castSucc i.2.1) c
  let v ← ld (aB i.2.2) (aR i.1.castSucc.succ i.2.1) h_S1x1x128x1024
  let r ← ld (relB i.2.2) (hR i.1.castSucc i.2.1 c) h_S128x1024
  let _ ← ld (aB i.2.2) (aR i.1.castSucc.succ i.2.1) h_S1x1x128x1024
  st16 (aB i.2.2) (aB_whole i.2.2) (aR i.1.castSucc.succ i.2.1) h_S1x1x128x1024 (aR_packed i.1.castSucc.succ i.2.1)
    (wr4 (pTr (pAdd (rd4 v) r)))
  sendP (.A i.2.2 i.1.succ i.2.1) c

/-- The last step of the reduce ring. -/
def lastP (c : Dev nD) (j d : Fin 2) : P0 F (FVec F S128x1024 .f32) := do
  waitR (.A d 6 j) c
  let v ← ld (aB d) (aR 7 j) h_S1x1x128x1024
  let r ← ld (relB d) (hR 6 j c) h_S128x1024
  let _ ← ld (ownB d) (wR j c) h_S128x1024
  st32 (ownB d) (wR j c) h_S128x1024 (sc32 (pAdd (rd4 v) r))
  pure (pAdd (rd4 v) r)
/-- and, of the half the other plane of the pair keeps, the copy to it. -/
def lastSendP (c : Dev nD) (i : Fin 6) (d : Fin 2) : P0 F PUnit := do
  let v ← lastP c 0 d
  let _ ← ldF (zSrc i)
  stF (zSrc i) (zSrc_whole i) (sc16 (pTr v))
  sendP (.Z i) c

/-- The sum over the pair of planes, sent to the other pair. -/
def pairP (c : Dev nD) (i i' : Fin 6) (d : Fin 2) : P0 F PUnit := do
  waitR (.Z i) c
  let a ← ld (ownB d) (wR 1 c) h_S128x1024
  let v ← ldF (zDst i)
  let _ ← ld (ownB d) (wR 1 c) h_S128x1024
  st32 (ownB d) (wR 1 c) h_S128x1024 (sc32 (pSum a v))
  let b ← ld (ownB d) (wR 1 c) h_S128x1024
  let _ ← ldF (zSrc i')
  stF (zSrc i') (zSrc_whole i') (sc16 (pTr b))
  sendP (.Z i') c

/-- The sum over the four planes, clamped, sent back to the pair and along the gather ring. -/
def quadP (c : Dev nD) (i i' : Fin 6) (d : Fin 2) : P0 F PUnit := do
  waitR (.Z i) c
  let a ← ld (ownB d) (wR 1 c) h_S128x1024
  let v ← ldF (zDst i)
  let _ ← ldF (zSrc i')
  stF (zSrc i') (zSrc_whole i') (sc16 (pTr (pRelu (pSum a v))))
  sendP (.Z i') c
  sendP (.C d 0 0) c

/-- Write out a finished tile. -/
def outP (c : Dev nD) (m : VM S128x1024 .bf16) (d j : Fin 2) : P0 F PUnit := do
  let v ← ldF m
  let _ ← ld oM (Rect.unit (s := S2048x2048) (fOff d j c) S128x1024.size (fOff_inb d j c)) h_S128x1024
  st32 oM (Rect.unit (s := S2048x2048) (fOff d j c) S128x1024.size (fOff_inb d j c)) h_S128x1024 (pEx v)

/-- The exchanges between planes. -/
def midP (c : Dev nD) (k : P0 F PUnit) : P0 F PUnit := do
  lastSendP c 0 0
  lastSendP c 1 1
  let _ ← lastP c 1 0
  let _ ← lastP c 1 1
  pairP c 0 2 0
  pairP c 1 3 1
  quadP c 2 4 0
  quadP c 3 5 1
  outP c (zSrc 4) 0 0
  outP c (zSrc 5) 1 0
  waitR (.Z 4) c
  sendP (.C 0 0 1) c
  waitR (.Z 5) c
  sendP (.C 1 0 1) c
  outP c (zDst 4) 0 1
  outP c (zDst 5) 1 1
  k

/-- Write out the tile received at hop `h`. -/
def tileP (c : Dev nD) (h : Fin 7) (j d : Fin 2) : P0 F PUnit := do
  let v ← ld (cB d) (lR h j c) h_S1x128x1024
  let _ ← ld oM (Rect.unit (s := S2048x2048) (gOff d h j c) S128x1024.size (gOff_inb d h j c)) h_S128x1024
  st32 oM (Rect.unit (s := S2048x2048) (gOff d h j c) S128x1024.size (gOff_inb d h j c)) h_S128x1024 (pEx (rd3 v))
/-- A step of the gather ring. -/
def gatP (c : Dev nD) (i : Fin 6 × Fin 2 × Fin 2) : P0 F PUnit := do
  waitR (.C i.2.2 i.1.castSucc i.2.1) c
  sendP (.C i.2.2 i.1.succ i.2.1) c
  tileP c i.1.castSucc i.2.1 i.2.2
/-- The last step of the gather ring. -/
def gatLastP (c : Dev nD) (i : Fin 2 × Fin 2) : P0 F PUnit := do
  waitR (.C i.2 6 i.1) c
  tileP c 6 i.1 i.2

/-- The four half blocks of a step, in order: half, then direction. -/
def ord4 : List (Fin 2 × Fin 2) := [(0, 0), (0, 1), (1, 0), (1, 1)]
def ordS : List (Fin 6 × Fin 2 × Fin 2) :=
  [0, 1, 2, 3, 4, 5].flatMap fun s => ord4.map fun i => (s, i)
/-- The copies in the order they start. -/
def ordK : List Ck :=
  ([0, 1, 2, 3, 4, 5, 6].flatMap fun s => ord4.map fun i => Ck.A i.2 s i.1)
  ++ [.Z 0, .Z 1, .Z 2, .Z 3, .Z 4, .C 0 0 0, .Z 5, .C 1 0 0, .C 0 0 1, .C 1 0 1]
  ++ ([1, 2, 3, 4, 5, 6].flatMap fun h => ord4.map fun i => Ck.C i.2 h i.1)

/-- The body after the device is known. -/
def bodyD (c : Dev nD) : P0 F PUnit := do
  barP c
  let w ← ld wM (Rect.unit (s := S64x2048) ![0, 0] S64x2048.size inb_S64x2048_S64x2048_0_0) h_S64x2048
  forL [0, 1] (initP c w) <| forL [1, 2, 3, 4, 5, 6, 7] (relP c w) <| forL ordS (accP c) <| midP c <|
    forL ordS (gatP c) <| forL ord4 (gatLastP c) <| forL ordK (fun k => waitS k c) (pure ⟨⟩)

def clean : P0 F PUnit := Prog.lift .deviceId >>= bodyD

end Cert.KernelIdeal.Body

end
-- ==== Proof.Topo.lean ====
/- Where the copies go: the torus of devices, the copies' directions, levels and semaphores, and the
   closed forms of the printed offsets. -/
module

public import proofs.«01_k».proof.Proof.Clean

@[expose] public section

set_option maxRecDepth 16384

noncomputable section

namespace Cert.KernelIdeal.Body

open Cert.KernelIdeal Cert.KernelIdeal.Gen
open Idealize.ShloMosaic Idealize.ShloMosaic.TcCoe
open Idealize.SL Idealize.SL.Sem

/-! ## Devices: four planes of a ring of eight -/

/-- The device number in its plane of each ring position, -/
def ringOf : Fin 8 → Fin 8 := ![0, 3, 4, 7, 6, 5, 2, 1]
/-- and back. -/
def ringPos : Fin 8 → Fin 8 := ![0, 7, 6, 1, 2, 5, 4, 3]
theorem ringPos_ringOf : ∀ p, ringPos (ringOf p) = p := by decide
theorem ringOf_ringPos : ∀ p, ringOf (ringPos p) = p := by decide

/-- A device by plane and ring position. -/
def mkDev (z : Fin 4) (p : Fin 8) : Dev nD := ⟨8 * z.val + (ringOf p).val, by show _ < 32; omega⟩
/-- The plane of a device. -/
def zOf (c : Dev nD) : Fin 4 := ⟨c.val / 8, by have : c.val < 32 := c.isLt; omega⟩
/-- The ring position of a device. -/
def pOf (c : Dev nD) : Fin 8 := ringPos ⟨c.val % 8, by omega⟩
theorem mkDev_zp : ∀ c, mkDev (zOf c) (pOf c) = c := by decide
theorem zOf_mk : ∀ z p, zOf (mkDev z p) = z := by decide
theorem pOf_mk : ∀ z p, pOf (mkDev z p) = p := by decide

/-- The plane paired first with a plane, and the one paired second. -/
def zPair : Fin 4 → Fin 4 := ![1, 0, 3, 2]
def zFar : Fin 4 → Fin 4 := ![2, 3, 0, 1]

/-- The four neighbours: along the ring up and down, in the far plane, in the paired plane. -/
def nb (e : Fin 4) (c : Dev nD) : Dev nD :=
  (![mkDev (zOf c) (pOf c + 1), mkDev (zOf c) (pOf c - 1), mkDev (zFar (zOf c)) (pOf c), mkDev (zPair (zOf c)) (pOf c)] :
    Fin 4 → Dev nD) e
/-- The direction back. -/
def opp : Fin 4 → Fin 4 := ![1, 0, 2, 3]
theorem opp_opp : ∀ e, opp (opp e) = e := by decide
theorem nb_opp : ∀ e c, nb (opp e) (nb e c) = c := by decide +kernel
theorem nb_opp' : ∀ e c, nb e (nb (opp e) c) = c := by decide +kernel

theorem dev1_eq : ∀ c : Dev nD, (⟨k0_dev1 c, k0_dev1_lt c⟩ : Dev nD) = nb 1 c := by decide +kernel
theorem dev2_eq : ∀ c : Dev nD, (⟨k0_dev2 c, k0_dev2_lt c⟩ : Dev nD) = nb 0 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = nb 3 c := by decide +kernel

/-! ## Directions of the copies -/

/-- The direction of a copy. -/
def dirOf : Ck → Fin 4
  | .A d _ _ => d.castLE (by omega)
  | .Z i => ![3, 3, 2, 2, 3, 3] i
  | .C d _ _ => d.castLE (by omega)
/-- The device a copy of `c` goes to. -/
def tgt (k : Ck) (c : Dev nD) : Dev nD := nb (dirOf k) c
/-- The device whose copy lands on `c`. -/
def frm (k : Ck) (c : Dev nD) : Dev nD := nb (opp (dirOf k)) c
theorem tgtP_eq : ∀ k c, tgtP k c = tgt k c := by decide +kernel
theorem frm_tgt (k : Ck) (c : Dev nD) : frm k (tgt k c) = c := nb_opp _ _
theorem tgt_frm (k : Ck) (c : Dev nD) : tgt k (frm k c) = c := nb_opp' _ _

/-! ## Offsets -/

/-- First row of the half kept (`j = 0` in the gather, `j = 1` in the reduction) or sent. -/
def hlf (b : Bool) (c : Dev nD) : Nat := if ((zOf c).val % 2 = 0) = (b = true) then 0 else 128
theorem hlf_cases (b : Bool) (c : Dev nD) : hlf b c = 0 ∨ hlf b c = 128 := by unfold hlf; split <;> simp
/-- The half of a reduce-phase index; -/
def bA (j : Fin 2) : Bool := ![false, true] j
/-- of a gather-phase index. -/
def bC (j : Fin 2) : Bool := ![true, false] j

theorem cOff_eq : ∀ h j c, cOff h j c = ![h.val + 1, hlf (bC j) c, 0] := by decide +kernel
theorem xOff_eq : ∀ j c, xOff j c = ![256 * (pOf c).val + hlf (bA j) c, 0] := by decide +kernel
/-- The block of rows a direction's ring step `k` works on, from position `p`. -/
def blkA (d : Fin 2) (k : Fin 8) (p : Fin 8) : Fin 8 := ![p - k, p + k] d
theorem rOff_eq : ∀ d, ∀ k : Fin 8, k ≠ 0 → ∀ c, rOff d k c = ![256 * (blkA d k (pOf c)).val, 0] := by decide +kernel
theorem hOff_eq : ∀ s j c, hOff s j c = ![256 * (s.val + 1) + hlf (bA j) c, 0] := by decide +kernel
theorem wOff_eq : ∀ j c, wOff j c = ![hlf (bA j) c, 0] := by decide +kernel

/-- The block of rows of the result a direction's hop `h` brings (`0`: the device's own). -/
def blkC (d : Fin 2) (h : Fin 8) (p : Fin 8) : Fin 8 := ![p + 1 - h, p - 1 + h] d
theorem fOff_eq : ∀ d j c, fOff d j c = ![256 * (blkC d 0 (pOf c)).val + hlf (bC j) c, 1024 * d.val] := by decide +kernel
theorem gOff_eq : ∀ d h j c, gOff d h j c = ![256 * (blkC d h.succ (pOf c)).val + hlf (bC j) c, 1024 * d.val] := by decide +kernel

theorem cOff_tgt (d : Fin 2) (h : Fin 7) (j : Fin 2) (c : Dev nD) : cOff h j (tgt (.C d h j) c) = cOff h j c := by
  rw [cOff_eq, cOff_eq]
  have : zOf (tgt (.C d h j) c) = zOf c := by revert d h j c; decide +kernel
  unfold hlf; rw [this]

/-- A gather slot depends on its offset alone. -/
theorem slotAt_congr {d : Fin 2} (o o' : Fin 3 → Nat) (h : ∀ a, o a + S1x128x1024.size a ≤ S8x256x1024.size a)
    (h' : ∀ a, o' a + S1x128x1024.size a ≤ S8x256x1024.size a) (e : o = o') :
    ((cB d).slice (Rect.unit (s := S8x256x1024) o S1x128x1024.size h) (fun _ => rfl)).squeeze S128x1024 squeezes_S1x128x1024_S128x1024
      = ((cB d).slice (Rect.unit (s := S8x256x1024) o' S1x128x1024.size h') (fun _ => rfl)).squeeze S128x1024
          squeezes_S1x128x1024_S128x1024 := by
  subst e; rfl

/-- The destination, named by the sender or by the receiver. -/
theorem dst_tgt (k : Ck) (c : Dev nD) : dst k (tgt k c) = dst k c := by
  rcases k with ⟨d, s, j⟩ | ⟨i⟩ | ⟨d, h, j⟩
  · rfl
  · rfl
  · show cSlot d h j _ = cSlot d h j c
    have := cOff_tgt d h j c
    exact slotAt_congr _ _ _ _ this

/-! ## Levels -/

/-- The level of a copy's landing: later landings sit above. -/
def lev : Ck → Nat
  | .A _ s _ => 2 + s.val
  | .Z i => ![10, 10, 11, 11, 12, 12] i
  | .C _ h _ => 13 + h.val

theorem lev_ge (k : Ck) : 2 ≤ lev k := by revert k; decide

/-! ## Semaphores -/

theorem osem_lt (i : Fin 128) : 3 + i.val < sig.nDmaSem := by
  show _ < 131
  omega
/-- The kernel's own semaphores in order. -/
def osem (i : Fin 128) : SemLoc sig := .dma ⟨3 + i.val, osem_lt i⟩
/-- The position of a copy's send semaphore, -/
def sIx : Ck → Fin 128
  | .A d s j => ⟨28 * d.val + 2 * s.val + j.val, by omega⟩
  | .Z i => ⟨56 + i.val, by omega⟩
  | .C d h j => ⟨72 + 28 * d.val + 2 * h.val + j.val, by omega⟩
/-- and of its receive semaphore. -/
def rIx : Ck → Fin 128
  | .A d s j => ⟨14 + 28 * d.val + 2 * s.val + j.val, by omega⟩
  | .Z i => ⟨64 + i.val, by omega⟩
  | .C d h j => ⟨86 + 28 * d.val + 2 * h.val + j.val, by omega⟩

theorem sendS_eq : ∀ k, SemLoc.dma (sendS k) = osem (sIx k) := by decide +kernel
theorem recvS_eq : ∀ k, SemLoc.dma (recvS k) = osem (rIx k) := by decide +kernel
theorem osem_inj : Function.Injective osem := by
  intro i j h
  have := congrArg (fun s : SemLoc sig => match s with | .dma q => q.val | .reg q => 0) h
  simp only [osem] at this
  exact Fin.ext (by omega)
theorem sIx_inj : Function.Injective sIx := by decide +kernel
theorem rIx_inj : Function.Injective rIx := by decide +kernel
theorem sIx_ne_rIx : ∀ k k', sIx k ≠ rIx k' := by decide +kernel

/-- The semaphores no copy uses. -/
def spare : Finset (Fin 128) := {62, 63, 70, 71}
theorem ix_cover : ∀ i : Fin 128, i ∈ spare ∨ (∃ k, sIx k = i) ∨ (∃ k, rIx k = i) := by decide +kernel
theorem spare_ne : ∀ k, sIx k ∉ spare ∧ rIx k ∉ spare := by decide +kernel

/-! ## Orders -/

theorem ordS_sorted : ordS.Pairwise (fun a b => a.1 ≤ b.1) := by decide +kernel
theorem ordK_nodup : ordK.Nodup := by decide +kernel
theorem ordK_mem : ∀ k, k ∈ ordK := by decide +kernel

/-- The copies of the reduce ring's steps, in order. -/
abbrev accK (i : Fin 6 × Fin 2 × Fin 2) : Ck := .A i.2.2 i.1.succ i.2.1
/-- The copies of the gather ring's steps, in order. -/
abbrev gatK (i : Fin 6 × Fin 2 × Fin 2) : Ck := .C i.2.2 i.1.succ i.2.1
/-- The copies of the exchanges between planes, in order. -/
def midK : List Ck := [.Z 0, .Z 1, .Z 2, .Z 3, .Z 4, .C 0 0 0, .Z 5, .C 1 0 0, .C 0 0 1, .C 1 0 1]
/-- The first copies of a half. -/
abbrev iniK (j : Fin 2) : List Ck := [.A 0 0 j, .A 1 0 j]
theorem ordK_eq : ordK = ([0, 1] : List (Fin 2)).flatMap iniK ++ (ordS.map accK ++ (midK ++ ordS.map gatK)) := by
  decide +kernel

end Cert.KernelIdeal.Body

end
-- ==== Proof.Mem.lean ====
/- Loads, stores, slots and shares of buffers, in terms of what a memref reads. -/
module

public import proofs.«01_k».proof.Proof.Topo
public import Idealize.ShloMosaic.Lib.Pipeline.Launch
public import Idealize.ShloMosaic.Lib.Pipeline.Kit
public import Idealize.ShloMosaic.Lib.Tactic
public import Idealize.ShloMosaic.Lib.MemrefSat

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the kernel's, whose duties are named by directions -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No variants are used: every wait is on a semaphore of the protocol. -/
abbrev 𝒱₀ : Variants := Variants.none

/-- A device's core. -/
abbrev thr (c : Dev nD) : Thread nD τ := (c : Thread nD τ)

/-- Running a program on device `c`. -/
abbrev run (c : Dev nD) {α : Type} (p : P0 F α) (Q : α → sProp 𝕄) : sProp 𝕄 :=
  wp frame (wpE defs₀ 𝒱₀ (thr c) none) Set.univ p Q

/-- Device `c` owns a memref, at share `q`, reading `X`; -/
abbrev own {s : Shape} {e : EltTy} (c : Dev nD) (m : VM s e) (q : PosShare TreeShare) (X : s.Idx → Elt F e) : sProp 𝕄 :=
  owns (thr c) m q X
/-- reading anything. -/
abbrev own? {s : Shape} {e : EltTy} (c : Dev nD) (m : VM s e) (q : PosShare TreeShare) : sProp 𝕄 :=
  iprop(∃ X : s.Idx → Elt F e, own c m q X)

/-! ## Gluing contents along disjoint rectangles -/

section Glue
variable {T : Type} {sh : Shape} {α : Type} [Nonempty α] (r : T → Rect sh)

open Classical in
/-- The contents that are `f t` on each rectangle. -/
def glue (f : ∀ t, (r t).shape.Idx → α) : sh.Idx → α := fun i =>
  if h : ∃ t, ∃ j, (r t).emb j = i then f h.choose h.choose_spec.choose else Classical.arbitrary α

theorem glue_emb (hd : ∀ t t', t ≠ t' → Disjoint (r t).set (r t').set) (f : ∀ t, (r t).shape.Idx → α) (t : T)
    (j : (r t).shape.Idx) : glue r f ((r t).emb j) = f t j := by
  have h : ∃ t', ∃ j', (r t').emb j' = (r t).emb j := ⟨t, j, rfl⟩
  unfold glue
  rw [dif_pos h]
  have h2 := h.choose_spec.choose_spec
  generalize h.choose_spec.choose = j' at h2 ⊢
  generalize h.choose = t' at j' h2 ⊢
  have : t' = t := by
    by_contra hne
    have hm : (r t).emb j ∈ (r t).set := by rw [← Rect.map_emb_univ]; exact Finset.mem_map_of_mem _ (Finset.mem_univ _)
    have hm' : (r t).emb j ∈ (r t').set := by
      rw [← h2, ← Rect.map_emb_univ]; exact Finset.mem_map_of_mem _ (Finset.mem_univ _)
    exact Finset.disjoint_left.mp (hd t' t hne) hm' hm
  subst this
  rw [(r t').emb.injective h2]

theorem exists_emb (hcov : ∀ i, ∃ t, i ∈ (r t).set) (i : sh.Idx) : ∃ t, ∃ j, (r t).emb j = i := by
  obtain ⟨t, ht⟩ := hcov i
  rw [← Rect.map_emb_univ] at ht
  obtain ⟨j, -, hj⟩ := Finset.mem_map.mp ht
  exact ⟨t, j, hj⟩

/-- Contents that are `f t` on each rectangle of a cover are the glued ones. -/
theorem eq_glue (hd : ∀ t t', t ≠ t' → Disjoint (r t).set (r t').set) (hcov : ∀ i, ∃ t, i ∈ (r t).set)
    (f : ∀ t, (r t).shape.Idx → α) (X : sh.Idx → α) (h : ∀ t j, X ((r t).emb j) = f t j) : X = glue r f := by
  funext i
  obtain ⟨t, j, rfl⟩ := exists_emb r hcov i
  rw [h, glue_emb r hd]

end Glue

/-! ## Loads and stores -/

section Mem
variable {s : Shape} {e : EltTy} {α : Type} (c : Dev nD)

theorem run_ld {Q : α → sProp 𝕄} {m : VM s e} {r : Rect s} {h : 0 < r.shape.numel} {q : PosShare TreeShare} {X : s.Idx → Elt F e}
    {k : Vec F r.shape e → P0 F α} :
    (own c m q X) ⊢ iprop((own c m q X -∗ run c (k fun i => X (r.emb i)) Q) -∗ run c (ld m r h >>= k) Q) := by
  unfold own owns
  iintro ⟨%f, %hf, H⟩ Hk
  subst hf
  iapply (wp_load_rect 𝒱₀ (thr c) none Set.univ (m := m) (r := r) (S := m.view.set) (f := f) (View.set_slice_subset _ _)) $$ H
  iintro H
  iapply Hk
  iexists f
  isplitr
  · ipureintro; rfl
  · iexact H

theorem read_write_overlay (m : VM s e) (r : Rect s) (f : m.view.ty.Contents (Elt F)) (w : r.shape.Idx → Elt F e) :
    m.view.read (Elt F) ((m.access r).write (Elt F) f w Finset.univ) = r.overlay (m.view.read (Elt F) f) w := by
  funext j
  by_cases hj : j ∈ r.set
  · rw [← Rect.map_emb_univ] at hj
    obtain ⟨i, -, rfl⟩ := Finset.mem_map.mp hj
    rw [Rect.overlay_emb]
    exact congrFun (View.read_write_univ (v := m.access r) f w) i
  · rw [Rect.overlay_of_not_mem _ _ _ hj]
    rw [View.read_apply, View.read_apply, View.write_of_not_mem]
    intro hm
    obtain ⟨i, -, hi⟩ := Finset.mem_map.mp hm
    apply hj
    rw [← m.view.emb.injective hi, ← Rect.map_emb_univ]
    exact Finset.mem_map_of_mem _ (Finset.mem_univ _)

theorem run_store {Q : α → sProp 𝕄} {m : VM s e} {r : Rect s} {w : r.shape.Idx → Elt F e} {hx : (m.access r).Stores Finset.univ}
    {hm : Finset.univ = Finset.univ ∨ ∀ a, r.stride a = 1} {X : s.Idx → Elt F e} {k : PUnit → P0 F α} :
    (own c m fullShare X) ⊢ iprop((own c m fullShare (r.overlay X w) -∗ run c (k ⟨⟩) Q)
      -∗ run c (Prog.lift (.store m r w Finset.univ hx hm) >>= k) Q) := by
  unfold own owns
  iintro ⟨%f, %hf, H⟩ Hk
  subst hf
  iapply (wp_store 𝒱₀ (thr c) none Set.univ (m := m) (r := r) (w := w) (hx := hx) (hm := hm) (S := m.view.set) (f := f)
    (View.set_slice_subset _ _)) $$ H
  iintro H
  iapply Hk
  iexists (m.access r).write (Elt F) f w Finset.univ
  isplitr
  · ipureintro; exact read_write_overlay m r f w
  · iexact H

/-! ## Squeezed slots -/

theorem own_squeeze (m : VM s e) (s' : Shape) (h : s.Squeezes s') (q : PosShare TreeShare) (X : s.Idx → Elt F e) :
    (own c (m.squeeze s' h) q (fun j => X (Shape.reshapeEquiv h.numel_eq j)) : sProp 𝕄) = own c m q X := by
  unfold own owns
  have hr (f : m.view.ty.Contents (Elt F)) :
      ((m.squeeze s' h).view.read (Elt F) f = fun j => X (Shape.reshapeEquiv h.numel_eq j)) = (m.view.read (Elt F) f = X) := by
    apply propext
    constructor
    · intro hf
      funext i
      have := congrFun hf ((Shape.reshapeEquiv h.numel_eq).symm i)
      simpa [View.read_apply] using this
    · rintro rfl; rfl
  have hs : (m.squeeze s' h).view.set = m.view.set := View.set_reshape _ _
  refine congrArg _ (funext fun f => ?_)
  rw [hr f]
  congr 1
  show ((m.view.loc (thr c)) ↦[(m.squeeze s' h).view.set]{q} f) = _
  rw [hs]

/-- A load through the parent buffer of an owned squeezed slot. -/
theorem run_ld_slot {Q : α → sProp 𝕄} {m : VM s e} {r r' : Rect s} (hr : ∀ a, r.stride a = 1) {s' : Shape} (hq : r.shape.Squeezes s')
    {h : 0 < r.shape.numel} {q : PosShare TreeShare} {X : s'.Idx → Elt F e} {k : Vec F r.shape e → P0 F α} :
    (own c ((m.slice r hr).squeeze s' hq) q X) ⊢ iprop((own c ((m.slice r hr).squeeze s' hq) q X
        -∗ run c (k fun i => X ((Shape.reshapeEquiv hq.numel_eq).symm i)) Q) -∗ run c (ld m r h >>= k) Q) := by
  have hX : X = fun j => (fun i => X ((Shape.reshapeEquiv hq.numel_eq).symm i)) (Shape.reshapeEquiv hq.numel_eq j) := by
    funext j; simp
  have he := own_squeeze c (m.slice r hr) s' hq q (fun i => X ((Shape.reshapeEquiv hq.numel_eq).symm i))
  rw [← hX] at he
  rw [he]
  unfold own owns
  iintro ⟨%f, %hf, H⟩ Hk
  rw [← hf]
  iapply (wp_load_rect 𝒱₀ (thr c) none Set.univ (m := m) (r := r) (S := (m.slice r hr).view.set) (f := f) (Finset.Subset.refl _)) $$ H
  iintro H
  iapply Hk
  iexists f
  isplitr
  · ipureintro; rfl
  · iexact H

/-- A store through the parent buffer into an owned squeezed slot. -/
theorem run_store_slot {Q : α → sProp 𝕄} {m : VM s e} {r : Rect s} (hr : ∀ a, r.stride a = 1) {s' : Shape} (hq : r.shape.Squeezes s')
    {w : r.shape.Idx → Elt F e} {hx : (m.access r).Stores Finset.univ}
    {hm : Finset.univ = Finset.univ ∨ ∀ a, r.stride a = 1} {X : s'.Idx → Elt F e} {k : PUnit → P0 F α} :
    (own c ((m.slice r hr).squeeze s' hq) fullShare X) ⊢ iprop((own c ((m.slice r hr).squeeze s' hq) fullShare
        (fun j => w (Shape.reshapeEquiv hq.numel_eq j)) -∗ run c (k ⟨⟩) Q)
      -∗ run c (Prog.lift (.store m r w Finset.univ hx hm) >>= k) Q) := by
  have hX : X = fun j => (fun i => X ((Shape.reshapeEquiv hq.numel_eq).symm i)) (Shape.reshapeEquiv hq.numel_eq j) := by
    funext j; simp
  have he := own_squeeze c (m.slice r hr) s' hq fullShare (fun i => X ((Shape.reshapeEquiv hq.numel_eq).symm i))
  rw [← hX] at he
  rw [he, own_squeeze c (m.slice r hr) s' hq fullShare w]
  unfold own owns
  iintro ⟨%f, %hf, H⟩ Hk
  iapply (wp_store 𝒱₀ (thr c) none Set.univ (m := m) (r := r) (w := w) (hx := hx) (hm := hm) (S := (m.slice r hr).view.set) (f := f)
    (Finset.Subset.refl _)) $$ H
  iintro H
  iapply Hk
  iexists (m.access r).write (Elt F) f w Finset.univ
  isplitr
  · ipureintro; exact View.read_write_univ (v := m.access r) f w
  · iexact H

end Mem

/-! ## Splitting buffers into slots and joining them -/

section Slots
variable {s : Shape} {e : EltTy} {T : Type} [Fintype T] [DecidableEq T] (c : Dev nD) (m : VM s e)
  (r : T → Rect s) (hr : ∀ t a, (r t).stride a = 1) (hd : ∀ t t', t ≠ t' → Disjoint (r t).set (r t').set)
  (hcov : ∀ i, ∃ t, i ∈ (r t).set)

include hd hcov

theorem own_split (q : PosShare TreeShare) (X : s.Idx → Elt F e) :
    own c m q X ⊢ (bigSep Finset.univ fun t => own c (m.slice (r t) (hr t)) q (fun j => X ((r t).emb j)) : sProp 𝕄) :=
  owns_rects (thr c) m q r hr hd (by ext i; simpa using hcov i) X

theorem own_join [Nonempty (Elt F e)] [∀ e, Nonempty (Elt F e)] :
    (bigSep Finset.univ fun t => own? c (m.slice (r t) (hr t)) fullShare) ⊢ (own? c m fullShare : sProp 𝕄) := by
  refine (bigSep_exists_pi Finset.univ (fun t X => own c (m.slice (r t) (hr t)) fullShare X)).trans ?_
  iintro ⟨%f, H⟩
  iexists glue r f
  iapply (owns_of_rects (thr c) m fullShare r hr hd (by ext i; simpa using hcov i) (glue r f))
  have : (fun t => owns (thr c) (m.slice (r t) (hr t)) fullShare (fun j => glue r f ((r t).emb j)) : T → sProp 𝕄)
      = fun t => own c (m.slice (r t) (hr t)) fullShare (f t) := by
    funext t
    congr 1
    funext j
    exact glue_emb r hd f t j
  rw [this]
  iexact H

end Slots

/-! ## Shares -/

theorem own_halves {s : Shape} {e : EltTy} (c : Dev nD) (m : VM s e) (q : PosShare TreeShare) (X : s.Idx → Elt F e) :
    (own c m q X : sProp 𝕄) ⊣⊢ iprop(own c m q.left X ∗ own c m q.right X) := owns_halves (thr c) m q X

/-- Two halves read alike, so join. -/
theorem own_join_halves {s : Shape} {e : EltTy} (c : Dev nD) (m : VM s e) (q : PosShare TreeShare) :
    iprop(own? c m q.left ∗ own? c m q.right) ⊢ (own? c m q : sProp 𝕄) := by
  iintro ⟨⟨%X, Hl⟩, ⟨%Y, Hr⟩⟩
  iexists X
  iapply (owns_rejoin (thr c) m q (Φ := fun _ => True) X)
  isplitl [Hl]
  · iexact Hl
  · iapply (ownsSat_intro (thr c) m q.right trivial) $$ Hr

end Cert.KernelIdeal.Body

end
-- ==== Proof.Vals.lean ====
/- What every copy carries and every tile of the result holds, as functions of the devices' inputs; and the
   rectangles that cut up the buffers. -/
module

public import proofs.«01_k».proof.Proof.Mem

@[expose] public section

set_option maxRecDepth 16384

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-! ## Rectangles -/

theorem hlf_cover (c : Dev nD) (n : Nat) (hn : n < 256) : ∃ j : Fin 2, hlf (bC j) c ≤ n ∧ n < hlf (bC j) c + 128 := by
  by_cases hz : (zOf c).val % 2 = 0 <;> by_cases h : n < 128
  · exact ⟨0, by simp [hlf, bC, hz, h]⟩
  · exact ⟨1, by simp [hlf, bC, hz]; omega⟩
  · exact ⟨1, by simp [hlf, bC, hz, h]⟩
  · exact ⟨0, by simp [hlf, bC, hz]; omega⟩
theorem hlf_sep (c : Dev nD) (j j' : Fin 2) (h : j ≠ j') :
    hlf (bC j) c + 128 ≤ hlf (bC j') c ∨ hlf (bC j') c + 128 ≤ hlf (bC j) c := by
  revert j j' h c; decide +kernel

/-- Slots of the reduce ring cut up its buffer. -/
abbrev aRs (t : Fin 8 × Fin 2) : Rect S8x2x128x1024 := aR t.1 t.2
theorem aRs_disjoint (t t' : Fin 8 × Fin 2) (h : t ≠ t') : Disjoint (aRs t).set (aRs t').set := by
  by_cases h1 : t.1 = t'.1
  · have h2 : t.2 ≠ t'.2 := fun h2 => h (Prod.ext h1 h2)
    have h2' : t.2.val ≠ t'.2.val := fun e => h2 (Fin.ext e)
    refine Rect.unit_disjoint (1 : Fin 4) ?_
    show t.2.val + 1 ≤ t'.2.val ∨ t'.2.val + 1 ≤ t.2.val
    omega
  · have h1' : t.1.val ≠ t'.1.val := fun e => h1 (Fin.ext e)
    refine Rect.unit_disjoint (0 : Fin 4) ?_
    show t.1.val + 1 ≤ t'.1.val ∨ t'.1.val + 1 ≤ t.1.val
    omega
theorem aRs_cover (i : S8x2x128x1024.Idx) : ∃ t, i ∈ (aRs t).set := by
  refine ⟨(i 0, i 1), Rect.mem_set_unit.mpr fun a => ?_⟩
  have h2 : (i 2).val < 128 := (i 2).isLt
  have h3 : (i 3).val < 1024 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 128; omega
  · show 0 ≤ (i 3).val ∧ (i 3).val < 0 + 1024; omega

/-- Slots of the gather ring. -/
abbrev cqOff (c : Dev nD) (t : Fin 8 × Fin 2) : Fin 3 → Nat := ![t.1.val, hlf (bC t.2) c, 0]
theorem cqOff_inb : ∀ c t, ∀ a, cqOff c t a + S1x128x1024.size a ≤ S8x256x1024.size a := by decide +kernel
abbrev cRs (c : Dev nD) (t : Fin 8 × Fin 2) : Rect S8x256x1024 :=
  Rect.unit (s := S8x256x1024) (cqOff c t) S1x128x1024.size (cqOff_inb c t)
theorem cRs_disjoint (c : Dev nD) (t t' : Fin 8 × Fin 2) (h : t ≠ t') : Disjoint (cRs c t).set (cRs c t').set := by
  by_cases h1 : t.1 = t'.1
  · have h2 : t.2 ≠ t'.2 := fun h2 => h (Prod.ext h1 h2)
    refine Rect.unit_disjoint (1 : Fin 3) ?_
    exact hlf_sep c _ _ h2
  · have h1' : t.1.val ≠ t'.1.val := fun e => h1 (Fin.ext e)
    refine Rect.unit_disjoint (0 : Fin 3) ?_
    show t.1.val + 1 ≤ t'.1.val ∨ t'.1.val + 1 ≤ t.1.val
    omega
theorem cRs_cover (c : Dev nD) (i : S8x256x1024.Idx) : ∃ t, i ∈ (cRs c t).set := by
  obtain ⟨j, hj⟩ := hlf_cover c (i 1).val (i 1).isLt
  refine ⟨(i 0, j), Rect.mem_set_unit.mpr fun a => ?_⟩
  have h2 : (i 2).val < 1024 := (i 2).isLt
  fin_cases a
  · show (i 0).val ≤ (i 0).val ∧ (i 0).val < (i 0).val + 1; omega
  · exact hj
  · show 0 ≤ (i 2).val ∧ (i 2).val < 0 + 1024; omega
theorem cOff_cq (h : Fin 7) (j : Fin 2) (c : Dev nD) : cOff h j c = cqOff c (h.succ, j) := cOff_eq h j c

/-- The tile of the result at a direction, hop and half. -/
abbrev Tl := Fin 2 × Fin 8 × Fin 2
abbrev oOff (c : Dev nD) (t : Tl) : Fin 2 → Nat := ![256 * (blkC t.1 t.2.1 (pOf c)).val + hlf (bC t.2.2) c, 1024 * t.1.val]
theorem oOff_inb (c : Dev nD) (t : Tl) : ∀ a, oOff c t a + S128x1024.size a ≤ S2048x2048.size a := by
  intro a
  have h1 := (blkC t.1 t.2.1 (pOf c)).isLt
  have h2 := t.1.isLt
  have h3 := hlf_cases (bC t.2.2) c
  fin_cases a
  · show 256 * (blkC t.1 t.2.1 (pOf c)).val + hlf (bC t.2.2) c + 128 ≤ 2048
    omega
  · show 1024 * t.1.val + 1024 ≤ 2048
    omega
abbrev oR (c : Dev nD) (t : Tl) : Rect S2048x2048 := Rect.unit (s := S2048x2048) (oOff c t) S128x1024.size (oOff_inb c t)
theorem blkC_inj : ∀ d p h h', blkC d h p = blkC d h' p → h = h' := by decide +kernel
theorem blkC_surj : ∀ d p b, ∃ h, blkC d h p = b := by decide +kernel
theorem oR_disjoint (c : Dev nD) (t t' : Tl) (h : t ≠ t') : Disjoint (oR c t).set (oR c t').set := by
  obtain ⟨d, k, j⟩ := t
  obtain ⟨d', k', j'⟩ := t'
  by_cases hd : d = d'
  · subst hd
    have g1 := hlf_cases (bC j) c
    have g2 := hlf_cases (bC j') c
    refine Rect.unit_disjoint (0 : Fin 2) ?_
    show 256 * (blkC d k (pOf c)).val + hlf (bC j) c + 128 ≤ 256 * (blkC d k' (pOf c)).val + hlf (bC j') c
      ∨ 256 * (blkC d k' (pOf c)).val + hlf (bC j') c + 128 ≤ 256 * (blkC d k (pOf c)).val + hlf (bC j) c
    by_cases hk : k = k'
    · subst hk
      have hj : j ≠ j' := fun e => h (by rw [e])
      have := hlf_sep c j j' hj
      omega
    · have : (blkC d k (pOf c)).val ≠ (blkC d k' (pOf c)).val := fun e => hk (blkC_inj _ _ _ _ (Fin.ext e))
      omega
  · have hd' : d.val ≠ d'.val := fun e => hd (Fin.ext e)
    refine Rect.unit_disjoint (1 : Fin 2) ?_
    show 1024 * d.val + 1024 ≤ 1024 * d'.val ∨ 1024 * d'.val + 1024 ≤ 1024 * d.val
    omega
theorem oR_cover (c : Dev nD) (i : S2048x2048.Idx) : ∃ t, i ∈ (oR c t).set := by
  have h0 : (i 0).val < 2048 := (i 0).isLt
  have h1 : (i 1).val < 2048 := (i 1).isLt
  obtain ⟨j, hj⟩ := hlf_cover c ((i 0).val % 256) (by omega)
  obtain ⟨k, hk⟩ := blkC_surj ⟨(i 1).val / 1024, by omega⟩ (pOf c) ⟨(i 0).val / 256, by omega⟩
  have hk' := congrArg Fin.val hk
  refine ⟨(⟨(i 1).val / 1024, by omega⟩, k, j), Rect.mem_set_unit.mpr fun a => ?_⟩
  fin_cases a
  · show 256 * (blkC _ k (pOf c)).val + hlf (bC j) c ≤ (i 0).val ∧ (i 0).val < 256 * (blkC _ k (pOf c)).val + hlf (bC j) c + 128
    rw [hk']
    show 256 * ((i 0).val / 256) + hlf (bC j) c ≤ (i 0).val ∧ (i 0).val < 256 * ((i 0).val / 256) + hlf (bC j) c + 128
    omega
  · show 1024 * ((i 1).val / 1024) ≤ (i 1).val ∧ (i 1).val < 1024 * ((i 1).val / 1024) + 1024
    omega

/-- The table's blocks of rows. -/
abbrev tR (k : Fin 8) : Rect S2048x1024 := Rect.unit (s := S2048x1024) (tOff k) S256x1024.size (tOff_inb k)
theorem tR_disjoint (k k' : Fin 8) (h : k ≠ k') : Disjoint (tR k).set (tR k').set := by
  have : k.val ≠ k'.val := fun e => h (Fin.ext e)
  refine Rect.unit_disjoint (0 : Fin 2) ?_
  show 256 * k.val + 256 ≤ 256 * k'.val ∨ 256 * k'.val + 256 ≤ 256 * k.val
  omega
theorem hR_emb (s : Fin 7) (j : Fin 2) (c : Dev nD) (i : S128x1024.Idx) : (hR s j c).emb i = (tR s.succ).emb ((wR j c).emb i) := by
  have h1 := congrFun (hOff_eq s j c)
  have h2 := congrFun (wOff_eq j c)
  funext a
  apply Fin.ext
  show hOff s j c a + 1 * (i a).val = tOff s.succ a + 1 * (wOff j c a + 1 * (i a).val)
  rw [h1, h2]
  fin_cases a
  · show 256 * (s.val + 1) + hlf (bA j) c + 1 * (i 0).val = 256 * (s.val + 1) + 1 * (hlf (bA j) c + 1 * (i 0).val)
    omega
  · show 0 + 1 * (i 1).val = 0 + 1 * (0 + 1 * (i 1).val)
    omega

theorem fullR_emb (i : S128x1024.Idx) : fullR.emb i = i := by
  have hz : ∀ a, (![0, 0] : Fin 2 → Nat) a = 0 := by decide
  funext a
  apply Fin.ext
  show (![0, 0] : Fin 2 → Nat) a + 1 * (i a).val = (i a).val
  rw [hz]; omega
theorem overlay_fullR {α : Type} (X w : S128x1024.Idx → α) : fullR.overlay X w = w := by
  funext i
  have := Rect.overlay_emb fullR X w i
  rwa [fullR_emb] at this

/-! ## Reshapes -/

theorem rd4_slot (X : S128x1024.Idx → Elt F .bf16) :
    rd4 (fun i => X ((Shape.reshapeEquiv squeezes_S1x1x128x1024_S128x1024.numel_eq).symm i)) = X := by
  funext j; simp [rd4, shapeCast]
theorem rd3_slot (X : S128x1024.Idx → Elt F .bf16) :
    rd3 (fun i => X ((Shape.reshapeEquiv squeezes_S1x128x1024_S128x1024.numel_eq).symm i)) = X := by
  funext j; simp [rd3, shapeCast]
theorem wr4_slot (v : FVec F S128x1024 .bf16) :
    (fun j => wr4 v (Shape.reshapeEquiv squeezes_S1x1x128x1024_S128x1024.numel_eq j)) = v := by
  funext j
  simp only [wr4, shapeCast]
  congr 1
  simp [Shape.reshapeEquiv]
theorem sc32_eq (v : FVec F S128x1024 .f32) : sc32 v = v := by
  funext j; simp [sc32, shapeCast, Shape.reshapeEquiv]
theorem sc16_eq (v : FVec F S128x1024 .bf16) : sc16 v = v := by
  funext j; simp [sc16, shapeCast, Shape.reshapeEquiv]

/-! ## Values -/

section Val
variable (X : Dev nD → Vec F S2048x64 .bf16) (W : Dev nD → Vec F S64x2048 .bf16)

/-- The device before along direction `d`. -/
abbrev prv (d : Fin 2) (c : Dev nD) : Dev nD := nb (opp (d.castLE (by omega))) c

/-- The rows first reduced. -/
def xI (j : Fin 2) (c : Dev nD) : Vec F S128x64 .bf16 :=
  fun i => X c ((Rect.unit (s := S2048x64) (xOff j c) S128x64.size (xOff_inb j c)).emb i)
def vInit (d j : Fin 2) (c : Dev nD) : FVec F S128x1024 .bf16 := pInit d (W c) (xI X j c)
/-- The rows of ring step `k`. -/
def xR (d : Fin 2) (k : Fin 8) (c : Dev nD) : Vec F S256x64 .bf16 :=
  fun i => X c ((Rect.unit (s := S2048x64) (rOff d k c) S256x64.size (rOff_inb d k c)).emb i)
def vRel (d : Fin 2) (k : Fin 8) (c : Dev nD) : FVec F S256x1024 .f32 := pRel d (W c) (xR X d k c)
/-- Their products' half. -/
def vHalf (d : Fin 2) (s : Fin 7) (j : Fin 2) (c : Dev nD) : FVec F S128x1024 .f32 :=
  fun i => vRel X W d s.succ c ((wR j c).emb i)

/-- What a device passes on at step `n` of the reduce ring. -/
def vA (d j : Fin 2) : Nat → Dev nD → FVec F S128x1024 .bf16
  | 0, c => vInit X W d j c
  | n + 1, c => pTr (pAdd (vA d j n (prv d c)) (vHalf X W d (Fin.ofNat 7 n) j c))
/-- The sum over a plane. -/
def vLast (d j : Fin 2) (c : Dev nD) : FVec F S128x1024 .f32 := pAdd (vA X W d j 6 (prv d c)) (vHalf X W d 6 j c)
def vZ0 (d : Fin 2) (c : Dev nD) : FVec F S128x1024 .bf16 := pTr (vLast X W d 0 c)
/-- The sum over a pair of planes. -/
def vPair (d : Fin 2) (c : Dev nD) : FVec F S128x1024 .f32 := pSum (vLast X W d 1 c) (vZ0 X W d (nb 3 c))
def vZ2 (d : Fin 2) (c : Dev nD) : FVec F S128x1024 .bf16 := pTr (vPair X W d c)
/-- The sum over all planes, clamped. -/
def vQuad (d : Fin 2) (c : Dev nD) : FVec F S128x1024 .bf16 := pTr (pRelu (pSum (vPair X W d c) (vZ2 X W d (nb 2 c))))
/-- What a device passes on at hop `n` of the gather ring. -/
def vC (d j : Fin 2) : Nat → Dev nD → FVec F S128x1024 .bf16
  | 0, c => if j = 0 then vQuad X W d c else vQuad X W d (nb 3 c)
  | n + 1, c => vC d j n (prv d c)

/-- What a copy of device `c` carries. -/
def val : Ck → Dev nD → FVec F S128x1024 .bf16
  | .A d s j, c => vA X W d j s.val c
  | .Z i, c => (![vZ0 X W 0 c, vZ0 X W 1 c, vZ2 X W 0 c, vZ2 X W 1 c, vQuad X W 0 c, vQuad X W 1 c] : Fin 6 → FVec F S128x1024 .bf16) i
  | .C d h j, c => vC X W d j h.val c
/-- What lands at device `c`. -/
abbrev got (k : Ck) (c : Dev nD) : FVec F S128x1024 .bf16 := val X W k (frm k c)

/-- A tile of the result. -/
def vO (c : Dev nD) (t : Tl) : FVec F S128x1024 .f32 := pEx (vC X W t.1 t.2.2 t.2.1.val c)
/-- The result. -/
def vOut (c : Dev nD) : S2048x2048.Idx → Elt F .f32 := by
  haveI : Nonempty (Elt F .f32) := ⟨FloatOps.ofBits .f32 0⟩
  exact glue (oR c) (fun t => vO X W c t)

theorem vA_step (d : Fin 2) (s : Fin 6) (j : Fin 2) (c : Dev nD) :
    pTr (pAdd (got X W (.A d s.castSucc j) c) (vHalf X W d s.castSucc j c)) = val X W (.A d s.succ j) c := by
  have : Fin.ofNat 7 s.val = s.castSucc := by revert s; decide
  show _ = pTr (pAdd (vA X W d j s.val (prv d c)) (vHalf X W d (Fin.ofNat 7 s.val) j c))
  rw [this]; rfl
theorem vC_step (d : Fin 2) (h : Fin 6) (j : Fin 2) (c : Dev nD) :
    got X W (.C d h.castSucc j) c = val X W (.C d h.succ j) c := rfl

end Val

end Cert.KernelIdeal.Body

end
-- ==== Proof.Sched.lean ====
/- The protocol: one round at every cell. A device's barrier cell has a duty per direction, paid by the neighbour
   there, which hands over its landing places for the copies from that device; a copy's receive cell hands over
   what landed, its send cell the source back. -/
module

public import proofs.«01_k».proof.Proof.Vals
public import Idealize.ShloMosaic.Lib.Pipeline.BigSepL

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The cells of a device: the barrier's, and a send (`false`) and a receive (`true`) cell per copy. -/
abbrev Cl := Option (Bool × Ck)
/-- Their semaphores. -/
def csem : Cl → SemLoc sig
  | none => .reg barS.sem
  | some (false, k) => .dma (sendS k)
  | some (true, k) => .dma (recvS k)
theorem csem_inj : Function.Injective csem := by
  intro x y h
  rcases x with _ | ⟨_ | _, k⟩ <;> rcases y with _ | ⟨_ | _, k'⟩ <;> simp only [csem, sendS_eq, recvS_eq] at h
  · rfl
  · cases h
  · cases h
  · cases h
  · rw [sIx_inj (osem_inj h)]
  · exact absurd (osem_inj h) (sIx_ne_rIx _ _)
  · cases h
  · exact absurd (osem_inj h).symm (sIx_ne_rIx _ _)
  · rw [rIx_inj (osem_inj h)]

/-- A device's cell. -/
abbrev kcell (c : Dev nD) (x : Cl) : GSem nD τ sig := (thr c, csem x)
abbrev barCell (c : Dev nD) : GSem nD τ sig := kcell c none
abbrev sCell (k : Ck) (c : Dev nD) : GSem nD τ sig := kcell c (some (false, k))
abbrev rCell (k : Ck) (c : Dev nD) : GSem nD τ sig := kcell c (some (true, k))

open Classical in
/-- Which cell a semaphore is. -/
def dec (sl : SemLoc sig) : Option Cl := if h : ∃ x, csem x = sl then some h.choose else none
theorem dec_csem (x : Cl) : dec (csem x) = some x := by
  have h : ∃ y, csem y = csem x := ⟨x, rfl⟩
  unfold dec
  rw [dif_pos h, csem_inj h.choose_spec]
theorem dec_none {sl : SemLoc sig} (h : ∀ x, csem x ≠ sl) : dec sl = none := dif_neg (fun ⟨x, hx⟩ => h x hx)

/-- The credit of a copy. -/
abbrev N : ℕ := (zSrc 0).view.dmaCredit
theorem N_pos : 0 < N := View.dmaCredit_pos _ (by decide)
theorem src_credit : ∀ (k : Ck) (c : Dev nD), (src k c).view.dmaCredit = N
  | .A 0 s j, _ => rfl
  | .A 1 s j, _ => rfl
  | .Z 0, _ => rfl
  | .Z 1, _ => rfl
  | .Z 2, _ => rfl
  | .Z 3, _ => rfl
  | .Z 4, _ => rfl
  | .Z 5, _ => rfl
  | .C 0 ⟨0, _⟩ 0, c => rfl
  | .C 0 ⟨0, _⟩ 1, c => rfl
  | .C 1 ⟨0, _⟩ 0, c => rfl
  | .C 1 ⟨0, _⟩ 1, c => rfl
  | .C 0 ⟨_ + 1, _⟩ j, c => rfl
  | .C 1 ⟨_ + 1, _⟩ j, c => rfl
theorem dst_credit : ∀ (k : Ck) (c : Dev nD), (dst k c).view.dmaCredit = N
  | .A 0 s j, _ => rfl
  | .A 1 s j, _ => rfl
  | .Z 0, _ => rfl
  | .Z 1, _ => rfl
  | .Z 2, _ => rfl
  | .Z 3, _ => rfl
  | .Z 4, _ => rfl
  | .Z 5, _ => rfl
  | .C 0 h j, c => rfl
  | .C 1 h j, c => rfl

/-! ## The schedule -/

/-- The share of its source a copy reads through: the rest is kept for loads and further copies. -/
def shr : Ck → PosShare TreeShare
  | .A _ _ _ => fullShare
  | .Z i => if i.val < 4 then fullShare else fullShare.left
  | .C _ ⟨0, _⟩ j => if j = 0 then fullShare.right.left else fullShare.left
  | .C _ ⟨_ + 1, _⟩ _ => fullShare.left

section Sched
variable (X : Dev nD → Vec F S2048x64 .bf16) (W : Dev nD → Vec F S64x2048 .bf16)

/-- The source handed back, -/
def sendPay (k : Ck) (c : Dev nD) : sProp 𝕄 := own c (src k c) (shr k) (val X W k c)
/-- what landed, -/
def recvPay (k : Ck) (c : Dev nD) : sProp 𝕄 := own c (dst k c) fullShare (got X W k c)
/-- a landing place, as its writer names it, -/
def land (k : Ck) (c : Dev nD) : sProp 𝕄 := own? (F := F) (tgt k c) (dst k c) fullShare
/-- and those of one neighbour. -/
def barPay (c : Dev nD) (e : Fin 4) : sProp 𝕄 := bigSep (Finset.univ.filter fun k => dirOf k = e) fun k => land (F := F) k c

def Rd : Schedule (GSem nD τ sig) (Fin 4) 𝕄 where
  duties g r := if r = 0 ∧ g.1.2 = .tc then
    (match dec g.2 with | some none => Finset.univ | some (some _) => {0} | none => ∅) else ∅
  unitless _ := False
  amount g _ _ := match dec g.2 with | some (some _) => N | _ => 1
  payload g _ d := match dec g.2 with
    | some none => barPay g.1.1 d
    | some (some (false, k)) => sendPay X W k g.1.1
    | some (some (true, k)) => recvPay X W k g.1.1
    | none => iprop(emp)
  amount_pos g _ _ _ := by
    split
    · exact N_pos
    · exact Nat.one_pos

instance Rd_storable (g : GSem nD τ sig) (r : ℕ) (d : Fin 4) :
    BI.Storable (upEmb : UEmb _ 𝕄) ((Rd X W).payload g r d) := by
  dsimp only [Rd]
  unfold barPay sendPay recvPay land
  split <;> infer_instance

variable (c : Dev nD) (k : Ck)

theorem duties_bar : (Rd X W).duties (barCell c) 0 = Finset.univ := by
  dsimp only [Rd]; rw [dec_csem]; exact if_pos ⟨rfl, rfl⟩
theorem duties_copy (b : Bool) : (Rd X W).duties (kcell c (some (b, k))) 0 = {0} := by
  dsimp only [Rd]; rw [dec_csem]; exact if_pos ⟨rfl, rfl⟩
theorem duties_later (g : GSem nD τ sig) : ∀ r, 1 ≤ r → (Rd X W).duties g r = ∅ :=
  fun r hr => by dsimp only [Rd]; exact if_neg fun h => by omega
theorem amount_bar (d : Fin 4) : (Rd X W).amount (barCell c) 0 d = 1 := by dsimp only [Rd]; rw [dec_csem]
theorem amount_copy (b : Bool) (d : Fin 4) : (Rd X W).amount (kcell c (some (b, k))) 0 d = N := by dsimp only [Rd]; rw [dec_csem]
theorem expect_bar : (Rd X W).expect (barCell c) 0 = 4 := by
  unfold Schedule.expect Schedule.amountOf
  rw [duties_bar, Finset.sum_congr rfl fun d _ => amount_bar X W c d, Finset.sum_const, Finset.card_univ, Fintype.card_fin, smul_eq_mul]
theorem expect_copy (b : Bool) : (Rd X W).expect (kcell c (some (b, k))) 0 = N := by
  unfold Schedule.expect Schedule.amountOf; rw [duties_copy, Finset.sum_singleton, amount_copy]
theorem payload_bar (d : Fin 4) : (Rd X W).payload (barCell c) 0 d = barPay c d := by dsimp only [Rd]; rw [dec_csem]
theorem payload_send (d : Fin 4) : (Rd X W).payload (sCell k c) 0 d = sendPay X W k c := by dsimp only [Rd]; rw [dec_csem]
theorem payload_recv (d : Fin 4) : (Rd X W).payload (rCell k c) 0 d = recvPay X W k c := by dsimp only [Rd]; rw [dec_csem]
/-- The barrier's round hands over every landing place of the device's copies. -/
theorem rest_bar : bigSep ((Rd X W).duties (barCell c) 0 \ ∅) (fun d => (Rd X W).payload (barCell c) 0 d)
    = bigSep Finset.univ fun k => land (F := F) k c := by
  have h : (fun d => (Rd X W).payload (barCell c) 0 d) = fun d => barPay c d := funext fun d => payload_bar X W c d
  rw [Finset.sdiff_empty, duties_bar, h]
  unfold barPay
  have hi : (Finset.univ : Finset Ck).image dirOf = Finset.univ := by decide
  rw [bigSep_fiberwise (Finset.univ : Finset Ck) dirOf, hi]
theorem rest_send : bigSep ((Rd X W).duties (sCell k c) 0 \ ∅) (fun d => (Rd X W).payload (sCell k c) 0 d) = sendPay X W k c := by
  rw [Finset.sdiff_empty, duties_copy, bigSep_singleton, payload_send]
theorem rest_recv : bigSep ((Rd X W).duties (rCell k c) 0 \ ∅) (fun d => (Rd X W).payload (rCell k c) 0 d) = recvPay X W k c := by
  rw [Finset.sdiff_empty, duties_copy, bigSep_singleton, payload_recv]

end Sched

/-! ## What a device owes; levels -/

/-- The landings a device still owes. -/
def oweL (c : Dev nD) : List Ck → CellTallies nD τ sig Unit
  | [] => 0
  | k :: l => oweL c l + tallyAt (rCell k (tgt k c)) () N
/-- At launch: every landing, and a barrier unit to each neighbour. -/
def O₀ (c : Dev nD) : CellTallies nD τ sig Unit :=
  oweL c ordK + tallyAt (barCell (nb 3 c)) () 1 + tallyAt (barCell (nb 2 c)) () 1 + tallyAt (barCell (nb 0 c)) () 1
    + tallyAt (barCell (nb 1 c)) () 1

def L (g : GSem nD τ sig) : Finset Unit := if g.1.2 = .tc then {()} else ∅
/-- Barrier cells at 1, landings above in the order they are waited for, the rest at 0. -/
def lv (g : GSem nD τ sig) (_ : Unit) : ℕ := match dec g.2 with
  | some none => 1
  | some (some (true, k)) => lev k
  | _ => 0

theorem L_of_ne (g : GSem nD τ sig) (h : g.1.2 ≠ .tc) : L g = ∅ := if_neg h
theorem L_tc (c : Dev nD) (sm : SemLoc sig) : L (thr c, sm) = {()} := if_pos rfl
theorem lv_bar (c : Dev nD) (u : Unit) : lv (barCell c) u = 1 := by unfold lv; rw [dec_csem]
theorem lv_recv (k : Ck) (c : Dev nD) (u : Unit) : lv (rCell k c) u = lev k := by unfold lv; rw [dec_csem]

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem oweL_pos {c : Dev nD} {g : GSem nD τ sig} {u : Unit} : ∀ l, 0 < oweL c l g u → ∃ k ∈ l, g = rCell k (tgt k c)
  | [], h => absurd h (Nat.lt_irrefl 0)
  | k :: l, h => by
    unfold oweL at h
    rw [Pi.add_apply, Finsupp.add_apply] at h
    by_cases h1 : 0 < oweL c l g u
    · obtain ⟨k', hk', e⟩ := oweL_pos l h1
      exact ⟨k', List.mem_cons_of_mem _ hk', e⟩
    · exact ⟨k, List.mem_cons_self, tally_pos (by omega : 0 < tallyAt (rCell k (tgt k c)) () N g u)⟩

theorem O₀_pos {c : Dev nD} {g : GSem nD τ sig} {u : Unit} (h : 0 < O₀ c g u) :
    (∃ k, g = rCell k (tgt k c)) ∨ ∃ e, g = barCell (nb e c) := by
  unfold O₀ at h
  simp only [Pi.add_apply, Finsupp.add_apply] at h
  by_cases h1 : 0 < oweL c ordK g u
  · obtain ⟨k, _, e⟩ := oweL_pos _ h1
    exact .inl ⟨k, e⟩
  by_cases h2 : 0 < tallyAt (barCell (nb 3 c)) () 1 g u
  · exact .inr ⟨3, tally_pos h2⟩
  by_cases h3 : 0 < tallyAt (barCell (nb 2 c)) () 1 g u
  · exact .inr ⟨2, tally_pos h3⟩
  by_cases h4 : 0 < tallyAt (barCell (nb 0 c)) () 1 g u
  · exact .inr ⟨0, tally_pos h4⟩
  exact .inr ⟨1, tally_pos (by omega : 0 < tallyAt (barCell (nb 1 c)) () 1 g u)⟩

/-- A wait below everything still owed. -/
theorem mayWait_owe (c : Dev nD) (sm : SemLoc sig) (l : List Ck) (h : ∀ k ∈ l, lv (thr c, sm) () < lev k) :
    (levAts L lv : sProp 𝕄) ⊢ MayWait (thr c) sm () (oweL c l) :=
  MayOwe.of_cut (L := L) (lev := lv) (lv (thr c, sm) ())
    (fun p hp => by rw [Finset.mem_singleton.mp hp, L_tc]; exact Finset.mem_singleton_self _)
    (fun g u hg => by obtain ⟨k, _, rfl⟩ := oweL_pos _ hg; exact Finset.mem_singleton_self _)
    (fun p hp => by rw [Finset.mem_singleton.mp hp])
    (fun g u hg => by obtain ⟨k, hk, rfl⟩ := oweL_pos _ hg; rw [lv_recv]; exact h k hk)

/-- The waits of the transfers into and out of the kernel's buffers. -/
theorem mayWait_stage (c : Dev nD) (q : DmaSem sig) (hq : ∀ x, csem x ≠ .dma q) (O : CellTallies nD τ sig Unit) (hO : O = O₀ c ∨ O = 0) :
    (levAts L lv : sProp 𝕄) ⊢ MayWait (thr c) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨e, rfl⟩ <;> exact Finset.mem_singleton_self _)
      (fun p hp => by rw [Finset.mem_singleton.mp hp]; dsimp only [lv]; rw [dec_none hq])
      (fun g u hg => by
        rcases O₀_pos hg with ⟨k, rfl⟩ | ⟨e, rfl⟩
        · rw [lv_recv]; have := lev_ge k; omega
        · rw [lv_bar]; decide)
  · rw [MayWait_zero]; iintro -; iempintro

end Cert.KernelIdeal.Body

end
-- ==== Proof.Steps.lean ====
/- One rule per communication step, in terms of the copies still to start; and the rule for a loop. -/
module

public import proofs.«01_k».proof.Proof.Sched

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable (X : Dev nD → Vec F S2048x64 .bf16) (W : Dev nD → Vec F S64x2048 .bf16)

/-- Every cell's invariant, that every cell has reached round 0, and the levels. -/
def recsAt (K : Dev nD × Cl → ℕ) : sProp 𝕄 :=
  iprop((bigSep Finset.univ fun x => cellInv ER (Rd X W) (K x) (kcell x.1 x.2))
    ∗ (bigSep Finset.univ fun x : Dev nD × Cl => reached ER (kcell x.1 x.2) 0) ∗ levAts L lv)
def recs : sProp 𝕄 := iprop(∃ K : Dev nD × Cl → ℕ, recsAt X W K)
instance recsAt_persistent (K : Dev nD × Cl → ℕ) : BI.Persistent (recsAt X W K) := by unfold recsAt; infer_instance
instance recs_persistent : BI.Persistent (recs X W) := by unfold recs; infer_instance

theorem recs_inv (c : Dev nD) (x : Cl) : recs X W ⊢ iprop(∃ κ, cellInv ER (Rd X W) κ (kcell c x)) := by
  unfold recs recsAt
  iintro ⟨%K, HI, -, -⟩
  iexists K (c, x)
  ihave H := (show _ ⊢ cellInv ER (Rd X W) (K (c, x)) (kcell c x) from
    bigSep_elim (Finset.mem_univ (c, x)) (Φ := fun x : Dev nD × Cl => cellInv ER (Rd X W) (K x) (kcell x.1 x.2))) $$ HI
  iexact H
theorem recs_reached (c : Dev nD) (x : Cl) : recs X W ⊢ reached ER (kcell c x) 0 := by
  unfold recs recsAt
  iintro ⟨%K, -, HR, -⟩
  ihave H := (show _ ⊢ (reached ER (kcell c x) 0 : sProp 𝕄) from
    bigSep_elim (Finset.mem_univ (c, x)) (Φ := fun x : Dev nD × Cl => (reached ER (kcell x.1 x.2) 0 : sProp 𝕄))) $$ HR
  iexact H
theorem recs_lev : recs X W ⊢ levAts L lv := by
  unfold recs recsAt
  iintro ⟨%K, -, -, HL⟩
  iexact HL

/-- The device owes the landings of `l`. -/
def Owe (c : Dev nD) (l : List Ck) : sProp 𝕄 := iprop(∃ Wt, owes (thr c) (oweL c l) Wt)
/-- What starting a copy takes. -/
def sendRes (c : Dev nD) (k : Ck) : sProp 𝕄 :=
  iprop(atPos ER (sCell k c) 0 ∅ 0 ∗ dutyTok ER (sCell k c) 0 0 ∗ dutyTok ER (rCell k (tgt k c)) 0 0 ∗ land (F := F) k c)
/-- What waiting for a landing takes. -/
def recvRes (c : Dev nD) (k : Ck) : sProp 𝕄 := iprop(atPos ER (rCell k c) 0 ∅ 0 ∗ cred (tallyAt (rCell k c) () N))
/-- What waiting for the source takes. -/
def sent (c : Dev nD) (k : Ck) : sProp 𝕄 := iprop(atPos ER (sCell k c) 0 ∅ 0 ∗ cred (tallyAt (sCell k c) () N))
/-- The copies still to start. -/
def Pend (c : Dev nD) (l : List Ck) : sProp 𝕄 := iprop(Owe (F := F) c l ∗ bigSepL l (sendRes (F := F) c))
/-- A cell's counter, zero for good. -/
def zer (c : Dev nD) (x : Cl) : sProp 𝕄 := semVal (kcell c x) 0

theorem run_bind_lift (c : Dev nD) {α β : Type} {Q : β → sProp 𝕄} (e : TpuEff nD τ sig (Elt F) Λ₀ .tc α) (p : α → P0 F β) :
    (Prog.lift e >>= p : P0 F β) = .op e p := by
  simp only [Prog.lift, Prog.bind_op, Prog.bind_ret]

/-- Start a copy to a given device. -/
def sendTo (n : Dev nD) (k : Ck) (c : Dev nD) : P0 F PUnit :=
  Prog.lift (.enqueueDma (src k c) (.remote (Dev.tc n) (dst k c) (.dma (sendS k)) (dst_sc k c)) (.dma (recvS k))
    (src_words k c) (dst_words k c) ⟨⟨rfl, Or.inl rfl⟩, trivial⟩)
theorem sendP_eq (k : Ck) (c : Dev nD) : sendP (F := F) k c = sendTo (tgt k c) k c := by
  rw [← tgtP_eq k c]; rfl

theorem run_sendP {α : Type} {Q : α → sProp 𝕄} (c : Dev nD) (k : Ck) (l : List Ck) (p : PUnit → P0 F α) :
    iprop(recs X W ∗ Pend c (k :: l) ∗ own c (src k c) (shr k) (val X W k c))
      ⊢ iprop((Pend c l ∗ sent c k -∗ run c (p ⟨⟩) Q) -∗ run c (sendP k c >>= p) Q) := by
  rw [sendP_eq, sendTo, run_bind_lift c (Q := Q)]
  unfold Pend Owe
  rw [bigSepL_cons']
  unfold sendRes land own? own owns
  iintro ⟨#Hr, ⟨⟨%Wt, HO⟩, ⟨Hat, Ht1, Ht2, ⟨%Y, %fd, %hfd, Hd⟩⟩, Hl⟩, ⟨%fs, %hfs, Hs⟩⟩ Hk
  ihave HI1 := (recs_inv X W c (some (false, k))) $$ Hr
  icases HI1 with ⟨%κ₁, #HI1⟩
  ihave HI2 := (recs_inv X W (tgt k c) (some (true, k))) $$ Hr
  icases HI2 with ⟨%κ₂, #HI2⟩
  ihave #HR1 := (recs_reached X W c (some (false, k))) $$ Hr
  ihave #HR2 := (recs_reached X W (tgt k c) (some (true, k))) $$ Hr
  iapply (Rounds.wp_send_pointsTo 𝒱₀ ER (Rd X W) (thr c) none (κ₁ := κ₁) (κ₂ := κ₂)
    (r₁ := 0) (r₂ := 0) (d₁ := 0) (d₂ := 0) (c' := thr (tgt k c)) (src := src k c) (dst := dst k c) (q := shr k) (fs := fs) (fd := fd)
    (by rw [duties_copy]; exact Finset.mem_singleton_self _)
    (by rw [show (Rd X W).duties ((thr (tgt k c), .dma (recvS k)) : GSem nD τ sig) 0 = _ from duties_copy X W (tgt k c) k true]; exact Finset.mem_singleton_self _)
    () () N (show (dst k c).view.amount (.dma (recvS k)) = N from dst_credit k c) (amount_copy X W c k false 0) (amount_copy X W (tgt k c) k true 0) (oweL c l) rfl (W := Wt)
    (by
      rw [payload_send]; unfold sendPay own
      rw [← hfs]; exact owns_intro _ _ _ fs)
    (by
      rw [show (Rd X W).payload ((thr (tgt k c), .dma (recvS k)) : GSem nD τ sig) 0 0 = _ from payload_recv X W (tgt k c) k 0]; unfold recvPay own got
      rw [frm_tgt, dst_tgt, ← hfs]
      refine (owns_intro (thr (tgt k c)) (dst k c) fullShare _).trans (Entails.of_eq ?_)
      rw [View.read_write_univ])) $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO Hl]
  · isplitl [HO]; · iexists Wt; iexact HO
    iexact Hl
  unfold sent
  isplitl [Hat] <;> iassumption

theorem run_waitR {α : Type} {Q : α → sProp 𝕄} (c : Dev nD) (k : Ck) (l : List Ck) (hl : ∀ k' ∈ l, lev k < lev k') (p : PUnit → P0 F α) :
    iprop(recs X W ∗ Pend c l ∗ recvRes c k)
      ⊢ iprop((Pend c l ∗ own c (dst k c) fullShare (got X W k c) ∗ zer c (some (true, k)) -∗ run c (p ⟨⟩) Q)
        -∗ run c (waitR k c >>= p) Q) := by
  unfold waitR
  rw [run_bind_lift c (Q := Q)]
  unfold Pend Owe recvRes
  iintro ⟨#Hr, ⟨⟨%Wt, HO⟩, Hl⟩, ⟨Hat, Hc⟩⟩ Hk
  ihave HI1 := (recs_inv X W c (some (true, k))) $$ Hr
  icases HI1 with ⟨%κ, #HI⟩
  iapply (Rounds.wp_wait_rest_token 𝒱₀ ER (Rd X W) (thr c) none (κ := κ) (sm := .dma (recvS k)) (k' := N)
      (by rw [← dst_credit k c]; exact wpE_waitDma2_eq 𝒱₀ (thr c) none Set.univ) (Set.mem_univ _) () (O := oweL c l) (W := Wt) (R := 0) (m := 0) (T := ∅)
      (by rw [Nat.zero_add]; exact (expect_copy X W c k true).symm)) $$ [Hc HO Hat]
  · isplitr; · iexact HI
    isplitl [Hc]; · iexact Hc
    isplitl [HO]; · iexact HO
    isplitr
    · iapply (mayWait_owe c (.dma (recvS k)) l (fun k' hk' => by
        rw [show lv (thr c, .dma (recvS k)) () = lev k from lv_recv k c ()]; exact hl k' hk'))
      iapply (recs_lev X W); iexact Hr
    iexact Hat
  iintro ⟨HO, Hat, -, Hpay⟩
  ihave Hp := (show (bigSep ((Rd X W).duties ((thr c, .dma (recvS k)) : GSem nD τ sig) 0 \ ∅)
      fun d => (Rd X W).payload ((thr c, .dma (recvS k)) : GSem nD τ sig) 0 d) ⊢ _ from Entails.of_eq (rest_recv X W c k)) $$ Hpay
  imod (Rounds.cell_close ER (Rd X W) (Set.mem_univ κ) (fun h => h) (R := 0 + 1) (duties_later X W (rCell k c))) $$ [Hat] with Hz
  · isplitr; · iexact HI
    iexact Hat
  iapply Hk
  isplitl [HO Hl]
  · isplitl [HO]; · iexists _; iexact HO
    iexact Hl
  isplitl [Hp]
  · unfold recvPay; iexact Hp
  · unfold zer; iexact Hz

theorem run_waitS {α : Type} {Q : α → sProp 𝕄} (c : Dev nD) (k : Ck) (p : PUnit → P0 F α) :
    iprop(recs X W ∗ Owe c [] ∗ sent c k)
      ⊢ iprop((Owe c [] ∗ own c (src k c) (shr k) (val X W k c) ∗ zer c (some (false, k)) -∗ run c (p ⟨⟩) Q)
        -∗ run c (waitS k c >>= p) Q) := by
  unfold waitS
  rw [run_bind_lift c (Q := Q)]
  unfold Owe sent
  iintro ⟨#Hr, ⟨%Wt, HO⟩, ⟨Hat, Hc⟩⟩ Hk
  ihave HI1 := (recs_inv X W c (some (false, k))) $$ Hr
  icases HI1 with ⟨%κ, #HI⟩
  iapply (Rounds.wp_wait_rest_token 𝒱₀ ER (Rd X W) (thr c) none (κ := κ) (sm := .dma (sendS k)) (k' := N)
      (by rw [← src_credit k c]; exact wpE_waitDma2_eq 𝒱₀ (thr c) none Set.univ) (Set.mem_univ _) () (O := oweL c []) (W := Wt) (R := 0) (m := 0) (T := ∅)
      (by rw [Nat.zero_add]; exact (expect_copy X W c k false).symm)) $$ [Hc HO Hat]
  · isplitr; · iexact HI
    isplitl [Hc]; · iexact Hc
    isplitl [HO]; · iexact HO
    isplitr
    · rw [show oweL c [] = 0 from rfl, MayWait_zero]; iempintro
    iexact Hat
  iintro ⟨HO, Hat, -, Hpay⟩
  ihave Hp := (show (bigSep ((Rd X W).duties ((thr c, .dma (sendS k)) : GSem nD τ sig) 0 \ ∅)
      fun d => (Rd X W).payload ((thr c, .dma (sendS k)) : GSem nD τ sig) 0 d) ⊢ _ from Entails.of_eq (rest_send X W c k)) $$ Hpay
  imod (Rounds.cell_close ER (Rd X W) (Set.mem_univ κ) (fun h => h) (R := 0 + 1) (duties_later X W (sCell k c))) $$ [Hat] with Hz
  · isplitr; · iexact HI
    iexact Hat
  iapply Hk
  isplitl [HO]
  · iexists _; iexact HO
  isplitl [Hp]
  · unfold sendPay; iexact Hp
  · unfold zer; iexact Hz

/-! ## The barrier -/

/-- What the barrier takes. -/
def barRes (c : Dev nD) : sProp 𝕄 :=
  iprop(atPos ER (barCell c) 0 ∅ 0 ∗ cred (tallyAt (barCell c) () 4)
    ∗ (dutyTok ER (barCell (nb 1 c)) 0 0 ∗ barPay (F := F) (nb 1 c) 0) ∗ (dutyTok ER (barCell (nb 0 c)) 0 1 ∗ barPay (F := F) (nb 0 c) 1)
    ∗ (dutyTok ER (barCell (nb 2 c)) 0 2 ∗ barPay (F := F) (nb 2 c) 2) ∗ (dutyTok ER (barCell (nb 3 c)) 0 3 ∗ barPay (F := F) (nb 3 c) 3))

/-- A signal to the neighbour `n`, as its neighbour in direction `e`. -/
theorem run_signal {α : Type} {Q : α → sProp 𝕄} (c n d : Dev nD) (hn : n = d) (e : Fin 4) (O : CellTallies nD τ sig Unit) (p : PUnit → P0 F α) :
    iprop(recs X W ∗ (∃ Wt, owes (thr c) (O + tallyAt (barCell d) () 1) Wt) ∗ dutyTok ER (barCell d) 0 e ∗ barPay (F := F) d e)
      ⊢ iprop(((∃ Wt, owes (thr c) O Wt) -∗ run c (p ⟨⟩) Q) -∗ run c (semSignalWord n barS.sem 1#32 >>= p) Q) := by
  subst hn
  iintro ⟨#Hr, ⟨%Wt, HO⟩, Ht, Hp⟩ Hk
  ihave HI1 := (recs_inv X W n none) $$ Hr
  icases HI1 with ⟨%κ, #HI⟩
  ihave #HR := (recs_reached X W n none) $$ Hr
  simp only [semSignalWord, Prog.lift, Prog.bind_op, Prog.bind_ret]
  iapply (Rounds.wp_signal 𝒱₀ ER (Rd X W) (thr c) none (dst := thr n) (κ := κ) (d := e)
    (by rw [show (Rd X W).duties ((thr n, .reg barS.sem) : GSem nD τ sig) 0 = _ from duties_bar X W n]; exact Finset.mem_univ _) ((amount_bar X W n e).trans (by decide)) () O rfl) $$ [HO Ht Hp]
  · isplitr; · iexact HI
    isplitl [HO]; · iexact HO
    isplitl [Ht]; · iexact Ht
    isplitl [Hp]
    · rw [show (Rd X W).payload ((thr n, .reg barS.sem) : GSem nD τ sig) 0 e = _ from payload_bar X W n e]; iexact Hp
    iexact HR
  iintro HO
  iapply Hk
  iexists Wt; iexact HO

theorem run_barP {α : Type} {Q : α → sProp 𝕄} (c : Dev nD) (p : PUnit → P0 F α) :
    iprop(recs X W ∗ (∃ Wt, owes (thr c) (O₀ c) Wt) ∗ barRes c)
      ⊢ iprop((Owe c ordK ∗ (bigSep Finset.univ fun k => land (F := F) k c) ∗ zer c none -∗ run c (p ⟨⟩) Q)
        -∗ run c (barP c >>= p) Q) := by
  unfold barP barRes O₀
  simp only [bind_assoc]
  iintro ⟨#Hr, HO, Hat, Hc, ⟨Ht1, Hp1⟩, ⟨Ht0, Hp0⟩, ⟨Ht2, Hp2⟩, ⟨Ht3, Hp3⟩⟩ Hk
  iapply (run_signal X W c _ _ (dev1_eq c) 0) $$ [HO Ht1 Hp1]
  · isplitr; · iexact Hr
    isplitl [HO]; · iexact HO
    isplitl [Ht1] <;> iassumption
  iintro HO
  iapply (run_signal X W c _ _ (dev2_eq c) 1) $$ [HO Ht0 Hp0]
  · isplitr; · iexact Hr
    isplitl [HO]; · iexact HO
    isplitl [Ht0] <;> iassumption
  iintro HO
  iapply (run_signal X W c _ _ (dev3_eq c) 2) $$ [HO Ht2 Hp2]
  · isplitr; · iexact Hr
    isplitl [HO]; · iexact HO
    isplitl [Ht2] <;> iassumption
  iintro HO
  iapply (run_signal X W c _ _ (dev4_eq c) 3) $$ [HO Ht3 Hp3]
  · isplitr; · iexact Hr
    isplitl [HO]; · iexact HO
    isplitl [Ht3] <;> iassumption
  iintro ⟨%Wt, HO⟩
  ihave HI1 := (recs_inv X W c none) $$ Hr
  icases HI1 with ⟨%κ, #HI⟩
  simp only [semWaitWord, Prog.lift, Prog.bind_op, Prog.bind_ret]
  iapply (Rounds.wp_wait_rest_token 𝒱₀ ER (Rd X W) (thr c) none (κ := κ)
      (wpE_semWait_eq 𝒱₀ (thr c) none Set.univ) (Set.mem_univ _) () (O := oweL c ordK) (W := Wt) (R := 0) (m := 0) (T := ∅)
      (by rw [show (Rd X W).expect ((thr c, .reg barS.sem) : GSem nD τ sig) 0 = _ from expect_bar X W c]; decide)) $$ [Hc HO Hat]
  · isplitr; · iexact HI
    isplitl [Hc]; · iexact Hc
    isplitl [HO]; · iexact HO
    isplitr
    · iapply (mayWait_owe c (.reg barS.sem) ordK (fun k' hk' => by
        rw [show lv (thr c, .reg barS.sem) () = 1 from lv_bar c ()]; have := lev_ge k'; omega))
      iapply (recs_lev X W); iexact Hr
    iexact Hat
  iintro ⟨HO, Hat, -, Hpay⟩
  ihave Hp := (show (bigSep ((Rd X W).duties ((thr c, .reg barS.sem) : GSem nD τ sig) 0 \ ∅)
      fun d => (Rd X W).payload ((thr c, .reg barS.sem) : GSem nD τ sig) 0 d) ⊢ _ from Entails.of_eq (rest_bar X W c)) $$ Hpay
  imod (Rounds.cell_close ER (Rd X W) (Set.mem_univ κ) (fun h => h) (R := 0 + 1) (duties_later X W (barCell c))) $$ [Hat] with Hz
  · isplitr; · iexact HI
    iexact Hat
  iapply Hk
  isplitl [HO]
  · unfold Owe; iexists _; iexact HO
  isplitl [Hp]; · iexact Hp
  unfold zer; iexact Hz

end Steps

/-! ## Loops -/

/-- A loop from a rule for its step: the state `T` holds of the members still to come, `Pre` of each of them,
    `Post` of each one done. -/
theorem run_forL {ι : Type} (c : Dev nD) (f : ι → P0 F PUnit) (l₀ : List ι) (T : List ι → sProp 𝕄) (Pre Post : ι → sProp 𝕄)
    (hstep : ∀ (i : ι) (rest : List ι) (p : PUnit → P0 F PUnit) (Q : PUnit → sProp 𝕄), (i :: rest) <:+ l₀ →
      iprop(T (i :: rest) ∗ Pre i) ⊢ iprop((T rest ∗ Post i -∗ run c (p ⟨⟩) Q) -∗ run c (f i >>= p) Q)) :
    ∀ (l : List ι), l <:+ l₀ → ∀ (k : P0 F PUnit) (Q : PUnit → sProp 𝕄),
      iprop(T l ∗ bigSepL l Pre) ⊢ iprop((T [] ∗ bigSepL l Post -∗ run c k Q) -∗ run c (forL l f k) Q)
  | [], _, k, Q => by
    iintro ⟨HT, HP⟩ Hk
    iapply Hk
    isplitl [HT]; · iexact HT
    iexact HP
  | i :: l, hl, k, Q => by
    rw [bigSepL_cons', bigSepL_cons', show forL (i :: l) f k = f i >>= fun _ => forL l f k from rfl]
    iintro ⟨HT, Hi, Hl⟩ Hk
    iapply (hstep i l (fun _ => forL l f k) Q hl) $$ [HT Hi]
    · isplitl [HT] <;> iassumption
    iintro ⟨HT, Hi⟩
    iapply (run_forL c f l₀ T Pre Post hstep l ((List.suffix_cons i l).trans hl) k Q) $$ [HT Hl]
    · isplitl [HT] <;> iassumption
    iintro ⟨HT, Hl⟩
    iapply Hk
    isplitl [HT]; · iexact HT
    isplitl [Hi] <;> iassumption

end Cert.KernelIdeal.Body

end
-- ==== Proof.Blocks.lean ====
/- The rule of each block of the body. -/
module

public import proofs.«01_k».proof.Proof.Steps

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Blocks
variable (X : Dev nD → Vec F S2048x64 .bf16) (W : Dev nD → Vec F S64x2048 .bf16)

theorem lift_assoc {α β : Type} (e : TpuEff nD τ sig (Elt F) Λ₀ .tc α) (k : α → P0 F PUnit) (p : PUnit → P0 F β) :
    (Prog.lift e >>= k) >>= p = Prog.lift e >>= fun a => k a >>= p := bind_assoc _ _ _

/-- A half block spread over a slot's rectangle. -/
def un4 (v : FVec F S128x1024 .bf16) : Vec F S1x1x128x1024 .bf16 :=
  fun i => v ((Shape.reshapeEquiv squeezes_S1x1x128x1024_S128x1024.numel_eq).symm i)
def un3 (v : FVec F S128x1024 .bf16) : Vec F S1x128x1024 .bf16 :=
  fun i => v ((Shape.reshapeEquiv squeezes_S1x128x1024_S128x1024.numel_eq).symm i)
theorem rd4_un4 (v : FVec F S128x1024 .bf16) : rd4 (un4 v) = v := rd4_slot v
theorem rd3_un3 (v : FVec F S128x1024 .bf16) : rd3 (un3 v) = v := rd3_slot v

/-- Load of a reduce slot; -/
theorem run_ld4 {α : Type} {Q : α → sProp 𝕄} (c : Dev nD) (d : Fin 2) (s : Fin 8) (j : Fin 2) {q : PosShare TreeShare} {v : FVec F S128x1024 .bf16}
    {h : 0 < (aR s j).shape.numel} {k : Vec F S1x1x128x1024 .bf16 → P0 F α} :
    own c (aSlot d s j) q v ⊢ iprop((own c (aSlot d s j) q v -∗ run c (k (un4 v)) Q) -∗ run c (ld (aB d) (aR s j) h >>= k) Q) :=
  run_ld_slot c (r' := aR s j) (m := aB d) (fun _ => rfl) squeezes_S1x1x128x1024_S128x1024
/-- and a store into it. -/
theorem run_st4 {α : Type} {Q : α → sProp 𝕄} (c : Dev nD) (d : Fin 2) (s : Fin 8) (j : Fin 2) {v : FVec F S128x1024 .bf16}
    {w : FVec F S128x1024 .bf16} {h : 0 < (aR s j).shape.numel} {hp : (aR s j).PackedRows (EltTy.packing .bf16)} {k : PUnit → P0 F α} :
    own c (aSlot d s j) fullShare v ⊢ iprop((own c (aSlot d s j) fullShare w -∗ run c (k ⟨⟩) Q)
      -∗ run c (st16 (aB d) (aB_whole d) (aR s j) h hp (wr4 w) >>= k) Q) := by
  have := run_store_slot (F := F) (Q := Q) c (m := aB d) (r := aR s j) (fun _ => rfl) squeezes_S1x1x128x1024_S128x1024 (w := wr4 w)
    (hx := View.stores_vmem h ((aB_whole d).storeExact_slice rfl _ hp) (fun _ => rfl)) (hm := .inl rfl) (X := v) (k := k)
  rw [show (fun j => wr4 w (Shape.reshapeEquiv squeezes_S1x1x128x1024_S128x1024.numel_eq j)) = w from wr4_slot w] at this
  exact this

/-! ## The first products -/

theorem run_initP {α : Type} {Q : α → sProp 𝕄} (c : Dev nD) (j : Fin 2) (l : List Ck) (p : PUnit → P0 F α) :
    iprop(recs X W ∗ own c xM fullShare (X c) ∗ own? c (aSlot 0 0 j) fullShare ∗ own? c (aSlot 1 0 j) fullShare
        ∗ Pend c (.A 0 0 j :: .A 1 0 j :: l))
      ⊢ iprop((own c xM fullShare (X c) ∗ Pend c l ∗ sent c (.A 0 0 j) ∗ sent c (.A 1 0 j) -∗ run c (p ⟨⟩) Q)
        -∗ run c (initP c (W c) j >>= p) Q) := by
  unfold initP
  simp only [bind_assoc]
  iintro ⟨#Hr, Hx, ⟨%Y0, H0⟩, ⟨%Y1, H1⟩, HP⟩ Hk
  iapply (run_ld c) $$ Hx
  iintro Hx
  iapply (run_ld4 c 0 (0) j) $$ H0
  iintro H0
  iapply (run_st4 c 0 0 j) $$ H0
  iintro H0
  iapply (run_ld4 c 1 (0) j) $$ H1
  iintro H1
  iapply (run_st4 c 1 0 j) $$ H1
  iintro H1
  iapply (run_sendP X W c (.A 0 0 j) (.A 1 0 j :: l)) $$ [HP H0]
  · isplitr; · iexact Hr
    isplitl [HP]; · iexact HP
    iexact H0
  iintro ⟨HP, Hs0⟩
  iapply (run_sendP X W c (.A 1 0 j) l) $$ [HP H1]
  · isplitr; · iexact Hr
    isplitl [HP]; · iexact HP
    iexact H1
  iintro ⟨HP, Hs1⟩
  iapply Hk
  isplitl [Hx]; · iexact Hx
  isplitl [HP]; · iexact HP
  isplitl [Hs0] <;> iassumption

/-! ## The local products -/

/-- A direction's table, its blocks `D` filled. -/
def relOk (c : Dev nD) (d : Fin 2) (D : Fin 8 → Prop) : sProp 𝕄 :=
  iprop(∃ Y : S2048x1024.Idx → Elt F .f32, ⌜∀ k, D k → ∀ i, Y ((tR k).emb i) = vRel X W d k c i⌝ ∗ own c (relB d) fullShare Y)
abbrev relAll (c : Dev nD) (d : Fin 2) : sProp 𝕄 := relOk X W c d (· ≠ 0)

theorem run_stRel {α : Type} {Q : α → sProp 𝕄} (c : Dev nD) (d : Fin 2) (k : Fin 8) (D D' : Fin 8 → Prop)
    (hD : ∀ k', D' k' → k' = k ∨ D k') (h : 0 < (tR k).shape.numel)
    (v : Vec F S256x1024 .f32) (hv : v = vRel X W d k c) (p : PUnit → P0 F α) :
    relOk X W c d D ⊢ iprop((relOk X W c d D' -∗ run c (p ⟨⟩) Q)
      -∗ run c (ld (relB d) (tR k) h >>= fun _ => st32 (relB d) (tR k) h v >>= p) Q) := by
  subst hv
  unfold relOk
  iintro ⟨%Y, %hY, H⟩ Hk
  iapply (run_ld c) $$ H
  iintro H
  iapply (run_store c) $$ H
  iintro H
  iapply Hk
  iexists (tR k).overlay Y (vRel X W d k c)
  isplitr
  · ipureintro
    intro k' hk' i
    by_cases he : k' = k
    · subst he; exact Rect.overlay_emb _ _ _ i
    · rw [Rect.overlay_of_not_mem]
      · exact hY k' ((hD k' hk').resolve_left he) i
      · have hm : (tR k').emb i ∈ (tR k').set := by rw [← Rect.map_emb_univ]; exact Finset.mem_map_of_mem _ (Finset.mem_univ _)
        exact Finset.disjoint_left.mp (tR_disjoint k' k he) hm
  · iexact H

theorem run_relP {α : Type} {Q : α → sProp 𝕄} (c : Dev nD) (k : Fin 8) (D D' : Fin 8 → Prop)
    (hD : ∀ k', D' k' → k' = k ∨ D k') (p : PUnit → P0 F α) :
    iprop(own c xM fullShare (X c) ∗ relOk X W c 0 D ∗ relOk X W c 1 D)
      ⊢ iprop((own c xM fullShare (X c) ∗ relOk X W c 0 D' ∗ relOk X W c 1 D' -∗ run c (p ⟨⟩) Q)
        -∗ run c (relP c (W c) k >>= p) Q) := by
  unfold relP
  simp only [bind_assoc]
  iintro ⟨Hx, H0, H1⟩ Hk
  iapply (run_ld c) $$ Hx
  iintro Hx
  iapply (run_ld c) $$ Hx
  iintro Hx
  iapply (run_stRel X W c 0 k D D' hD _ _ rfl) $$ H0
  iintro H0
  iapply (run_stRel X W c 1 k D D' hD _ _ rfl) $$ H1
  iintro H1
  iapply Hk
  isplitl [Hx]; · iexact Hx
  isplitl [H0] <;> iassumption

/-- A load of half the table's rows of a step. -/
theorem run_ldRel {α : Type} {Q : α → sProp 𝕄} (c : Dev nD) (d : Fin 2) (s : Fin 7) (j : Fin 2) (h : 0 < (hR s j c).shape.numel)
    (k : Vec F S128x1024 .f32 → P0 F α) :
    relAll X W c d ⊢ iprop((relAll X W c d -∗ run c (k (vHalf X W d s j c)) Q) -∗ run c (ld (relB d) (hR s j c) h >>= k) Q) := by
  unfold relAll relOk
  iintro ⟨%Y, %hY, H⟩ Hk
  iapply (run_ld c) $$ H
  have he : (fun i => Y ((hR s j c).emb i)) = vHalf X W d s j c := by
    funext i
    rw [hR_emb]
    exact hY _ (Fin.succ_ne_zero s) _
  rw [he]
  iintro H
  iapply Hk
  iexists Y
  isplitr
  · ipureintro; exact hY
  · iexact H

/-! ## A step of the reduce ring -/

theorem run_accP {α : Type} {Q : α → sProp 𝕄} (c : Dev nD) (s : Fin 6) (j d : Fin 2) (l : List Ck)
    (hl : ∀ k' ∈ Ck.A d s.succ j :: l, lev (.A d s.castSucc j) < lev k') (p : PUnit → P0 F α) :
    iprop(recs X W ∗ relAll X W c d ∗ Pend c (.A d s.succ j :: l) ∗ recvRes c (.A d s.castSucc j))
      ⊢ iprop((relAll X W c d ∗ Pend c l ∗ zer c (some (true, .A d s.castSucc j)) ∗ sent c (.A d s.succ j) -∗ run c (p ⟨⟩) Q)
        -∗ run c (accP c (s, j, d) >>= p) Q) := by
  unfold accP
  simp only [bind_assoc]
  iintro ⟨#Hr, Hrel, HP, Hv⟩ Hk
  iapply (run_waitR X W c (.A d s.castSucc j) _ hl) $$ [HP Hv]
  · isplitr; · iexact Hr
    isplitl [HP] <;> iassumption
  rw [show dst (.A d s.castSucc j) c = aSlot d s.castSucc.succ j from rfl]
  iintro ⟨HP, Ha, Hz⟩
  iapply (run_ld4 c d (s.castSucc.succ) j) $$ Ha
  iintro Ha
  iapply (run_ldRel X W c d s.castSucc j) $$ Hrel
  iintro Hrel
  iapply (run_ld4 c d (s.castSucc.succ) j) $$ Ha
  iintro Ha
  iapply (run_st4 c d s.castSucc.succ j) $$ Ha
  iintro Ha
  rw [rd4_un4, vA_step]
  iapply (run_sendP X W c (.A d s.succ j) l) $$ [HP Ha]
  · isplitr; · iexact Hr
    isplitl [HP]; · iexact HP
    iexact Ha
  iintro ⟨HP, Hs⟩
  iapply Hk
  isplitl [Hrel]; · iexact Hrel
  isplitl [HP]; · iexact HP
  isplitl [Hz] <;> iassumption

/-! ## The last step and the exchanges between planes -/

/-- The own rows, the half kept reading `v`. -/
def ownOk (c : Dev nD) (d : Fin 2) (v : FVec F S128x1024 .f32) : sProp 𝕄 :=
  iprop(∃ Y : S256x1024.Idx → Elt F .f32, ⌜∀ i, Y ((wR 1 c).emb i) = v i⌝ ∗ own c (ownB d) fullShare Y)
theorem ownOk_any (c : Dev nD) (d : Fin 2) (v : FVec F S128x1024 .f32) : ownOk c d v ⊢ (own? c (ownB d) fullShare : sProp 𝕄) := by
  unfold ownOk
  iintro ⟨%Y, -, H⟩
  iexists Y; iexact H

theorem run_lastP {α : Type} {Q : α → sProp 𝕄} (c : Dev nD) (j d : Fin 2) (l : List Ck) (hl : ∀ k' ∈ l, lev (.A d 6 j) < lev k')
    (p : FVec F S128x1024 .f32 → P0 F α) :
    iprop(recs X W ∗ relAll X W c d ∗ own? c (ownB d) fullShare ∗ Pend c l ∗ recvRes c (.A d 6 j))
      ⊢ iprop((relAll X W c d
          ∗ (∃ Y : S256x1024.Idx → Elt F .f32, ⌜∀ i, Y ((wR j c).emb i) = vLast X W d j c i⌝ ∗ own c (ownB d) fullShare Y)
          ∗ Pend c l ∗ own? c (aSlot d 7 j) fullShare ∗ zer c (some (true, .A d 6 j)) -∗ run c (p (vLast X W d j c)) Q)
        -∗ run c (lastP c j d >>= p) Q) := by
  unfold lastP
  simp only [bind_assoc, pure_bind]
  iintro ⟨#Hr, Hrel, ⟨%Y, Ho⟩, HP, Hv⟩ Hk
  iapply (run_waitR X W c (.A d 6 j) _ hl) $$ [HP Hv]
  · isplitr; · iexact Hr
    isplitl [HP] <;> iassumption
  rw [show dst (.A d 6 j) c = aSlot d 7 j from rfl]
  iintro ⟨HP, Ha, Hz⟩
  iapply (run_ld4 c d (7) j) $$ Ha
  iintro Ha
  iapply (run_ldRel X W c d 6 j) $$ Hrel
  iintro Hrel
  iapply (run_ld c) $$ Ho
  iintro Ho
  iapply (run_store c) $$ Ho
  iintro Ho
  rw [rd4_un4, sc32_eq, show pAdd (got X W (.A d 6 j) c) (vHalf X W d 6 j c) = vLast X W d j c from rfl]
  iapply Hk
  isplitl [Hrel]; · iexact Hrel
  isplitl [Ho]
  · iexists (wR j c).overlay Y (vLast X W d j c)
    isplitr
    · ipureintro; exact fun i => Rect.overlay_emb _ _ _ i
    · iexact Ho
  isplitl [HP]; · iexact HP
  isplitl [Ha]
  · iexists _; iexact Ha
  iexact Hz

/-- Whole-buffer loads and stores. -/
theorem run_ldF {α : Type} {Q : α → sProp 𝕄} (c : Dev nD) {e : EltTy} {m : VM S128x1024 e} {q : PosShare TreeShare} {V : S128x1024.Idx → Elt F e}
    {k : Vec F S128x1024 e → P0 F α} :
    own c m q V ⊢ iprop((own c m q V -∗ run c (k V) Q) -∗ run c (ldF m >>= k) Q) := by
  iintro H Hk
  iapply (run_ld c) $$ H
  have he : (fun i => V (fullR.emb i)) = V := funext fun i => congrArg V (fullR_emb i)
  iintro H
  rw [he]
  iapply Hk
  iexact H
theorem run_stF {α : Type} {Q : α → sProp 𝕄} (c : Dev nD) {m : VM S128x1024 .bf16} {hm : m.IsWhole} {v : Vec F S128x1024 .bf16}
    {k : PUnit → P0 F α} :
    own? c m fullShare ⊢ iprop((own c m fullShare v -∗ run c (k ⟨⟩) Q) -∗ run c (ldF m >>= fun _ => stF m hm v >>= k) Q) := by
  iintro ⟨%V, H⟩ Hk
  iapply (run_ldF c) $$ H
  iintro H
  iapply (run_store c) $$ H
  rw [overlay_fullR]
  iintro H
  iapply Hk
  iexact H

theorem run_lastSendP {α : Type} {Q : α → sProp 𝕄} (c : Dev nD) (i : Fin 6) (d : Fin 2) (l : List Ck)
    (hs : shr (.Z i) = fullShare) (hv : val X W (.Z i) c = vZ0 X W d c)
    (hl : ∀ k' ∈ Ck.Z i :: l, lev (.A d 6 0) < lev k') (p : PUnit → P0 F α) :
    iprop(recs X W ∗ relAll X W c d ∗ own? c (ownB d) fullShare ∗ own? c (zSrc i) fullShare ∗ Pend c (.Z i :: l) ∗ recvRes c (.A d 6 0))
      ⊢ iprop((relAll X W c d ∗ own? c (ownB d) fullShare ∗ Pend c l ∗ own? c (aSlot d 7 0) fullShare
          ∗ zer c (some (true, .A d 6 0)) ∗ sent c (.Z i) -∗ run c (p ⟨⟩) Q)
        -∗ run c (lastSendP c i d >>= p) Q) := by
  unfold lastSendP
  simp only [bind_assoc]
  iintro ⟨#Hr, Hrel, Ho, Hb, HP, Hv⟩ Hk
  iapply (run_lastP X W c 0 d _ hl) $$ [Hrel Ho HP Hv]
  · isplitr; · iexact Hr
    isplitl [Hrel]; · iexact Hrel
    isplitl [Ho]; · iexact Ho
    isplitl [HP] <;> iassumption
  iintro ⟨Hrel, ⟨%Y, -, Ho⟩, HP, Ha, Hz⟩
  iapply (run_stF c) $$ Hb
  iintro Hb
  rw [sc16_eq, show pTr (vLast X W d 0 c) = val X W (.Z i) c from hv.symm]
  iapply (run_sendP X W c (.Z i) l) $$ [HP Hb]
  · isplitr; · iexact Hr
    isplitl [HP]; · iexact HP
    rw [hs]; iexact Hb
  iintro ⟨HP, Hs⟩
  iapply Hk
  isplitl [Hrel]; · iexact Hrel
  isplitl [Ho]; · iexists Y; iexact Ho
  isplitl [HP]; · iexact HP
  isplitl [Ha]; · iexact Ha
  isplitl [Hz] <;> iassumption

/-- A load of the kept half of the own rows. -/
theorem run_ldOwn {α : Type} {Q : α → sProp 𝕄} (c : Dev nD) (d : Fin 2) (v : FVec F S128x1024 .f32) (h : 0 < (wR 1 c).shape.numel)
    (k : Vec F S128x1024 .f32 → P0 F α) :
    ownOk c d v ⊢ iprop((ownOk c d v -∗ run c (k v) Q) -∗ run c (ld (ownB d) (wR 1 c) h >>= k) Q) := by
  unfold ownOk
  iintro ⟨%Y, %hY, H⟩ Hk
  iapply (run_ld c) $$ H
  have he : (fun i => Y ((wR 1 c).emb i)) = v := funext hY
  rw [he]
  iintro H
  iapply Hk
  iexists Y
  isplitr
  · ipureintro; exact hY
  · iexact H
theorem run_stOwn {α : Type} {Q : α → sProp 𝕄} (c : Dev nD) (d : Fin 2) (v w : FVec F S128x1024 .f32) (h : 0 < (wR 1 c).shape.numel)
    (k : PUnit → P0 F α) :
    ownOk c d v ⊢ iprop((ownOk c d w -∗ run c (k ⟨⟩) Q) -∗ run c (st32 (ownB d) (wR 1 c) h w >>= k) Q) := by
  unfold ownOk
  iintro ⟨%Y, %hY, H⟩ Hk
  iapply (run_store c) $$ H
  iintro H
  iapply Hk
  iexists (wR 1 c).overlay Y w
  isplitr
  · ipureintro; exact fun i => Rect.overlay_emb _ _ _ i
  · iexact H

theorem run_pairP {α : Type} {Q : α → sProp 𝕄} (c : Dev nD) (i i' : Fin 6) (d : Fin 2) (l : List Ck)
    (hs : shr (.Z i') = fullShare) (hg : got X W (.Z i) c = vZ0 X W d (nb 3 c)) (hv : val X W (.Z i') c = vZ2 X W d c)
    (hl : ∀ k' ∈ Ck.Z i' :: l, lev (.Z i) < lev k') (p : PUnit → P0 F α) :
    iprop(recs X W ∗ ownOk c d (vLast X W d 1 c) ∗ own? c (zSrc i') fullShare ∗ Pend c (.Z i' :: l) ∗ recvRes c (.Z i))
      ⊢ iprop((ownOk c d (vPair X W d c) ∗ own? c (zDst i) fullShare ∗ Pend c l ∗ zer c (some (true, .Z i)) ∗ sent c (.Z i') -∗ run c (p ⟨⟩) Q)
        -∗ run c (pairP c i i' d >>= p) Q) := by
  unfold pairP
  simp only [bind_assoc]
  iintro ⟨#Hr, Ho, Hb, HP, Hv⟩ Hk
  iapply (run_waitR X W c (.Z i) _ hl) $$ [HP Hv]
  · isplitr; · iexact Hr
    isplitl [HP] <;> iassumption
  rw [hg, show dst (.Z i) c = zDst i from rfl]
  iintro ⟨HP, Hd, Hz⟩
  iapply (run_ldOwn c d) $$ Ho
  iintro Ho
  iapply (run_ldF c (m := zDst i)) $$ Hd
  iintro Hd
  iapply (run_ldOwn c d) $$ Ho
  iintro Ho
  rw [sc32_eq, show pSum (vLast X W d 1 c) (vZ0 X W d (nb 3 c)) = vPair X W d c from rfl]
  iapply (run_stOwn c d) $$ Ho
  iintro Ho
  iapply (run_ldOwn c d) $$ Ho
  iintro Ho
  iapply (run_stF c) $$ Hb
  iintro Hb
  rw [sc16_eq, show pTr (vPair X W d c) = val X W (.Z i') c from hv.symm]
  iapply (run_sendP X W c (.Z i') l) $$ [HP Hb]
  · isplitr; · iexact Hr
    isplitl [HP]; · iexact HP
    rw [hs]; iexact Hb
  iintro ⟨HP, Hs⟩
  iapply Hk
  isplitl [Ho]; · iexact Ho
  isplitl [Hd]; · iexists _; iexact Hd
  isplitl [HP]; · iexact HP
  isplitl [Hz] <;> iassumption

theorem run_quadP {α : Type} {Q : α → sProp 𝕄} (c : Dev nD) (i i' : Fin 6) (d : Fin 2) (l : List Ck)
    (hs : shr (.Z i') = fullShare.left) (h0 : src0 d 0 = zSrc i')
    (hg : got X W (.Z i) c = vZ2 X W d (nb 2 c)) (hv : val X W (.Z i') c = vQuad X W d c)
    (hl : ∀ k' ∈ Ck.Z i' :: .C d 0 0 :: l, lev (.Z i) < lev k') (p : PUnit → P0 F α) :
    iprop(recs X W ∗ ownOk c d (vPair X W d c) ∗ own? c (zSrc i') fullShare ∗ Pend c (.Z i' :: .C d 0 0 :: l) ∗ recvRes c (.Z i))
      ⊢ iprop((own? c (ownB d) fullShare ∗ own? c (zDst i) fullShare ∗ own c (zSrc i') fullShare.right.right (vQuad X W d c)
          ∗ Pend c l ∗ zer c (some (true, .Z i)) ∗ sent c (.Z i') ∗ sent c (.C d 0 0) -∗ run c (p ⟨⟩) Q)
        -∗ run c (quadP c i i' d >>= p) Q) := by
  unfold quadP
  simp only [bind_assoc]
  iintro ⟨#Hr, Ho, Hb, HP, Hv⟩ Hk
  iapply (run_waitR X W c (.Z i) _ hl) $$ [HP Hv]
  · isplitr; · iexact Hr
    isplitl [HP] <;> iassumption
  rw [hg, show dst (.Z i) c = zDst i from rfl]
  iintro ⟨HP, Hd, Hz⟩
  iapply (run_ldOwn c d) $$ Ho
  iintro Ho
  iapply (run_ldF c (m := zDst i)) $$ Hd
  iintro Hd
  iapply (run_stF c) $$ Hb
  iintro Hb
  rw [sc16_eq, show pTr (pRelu (pSum (vPair X W d c) (vZ2 X W d (nb 2 c)))) = vQuad X W d c from rfl]
  ihave Hb := (own_halves c (zSrc i') fullShare (vQuad X W d c)).1 $$ Hb
  icases Hb with ⟨Hb1, Hb⟩
  ihave Hb := (own_halves c (zSrc i') fullShare.right (vQuad X W d c)).1 $$ Hb
  icases Hb with ⟨Hb2, Hb3⟩
  iapply (run_sendP X W c (.Z i') (.C d 0 0 :: l)) $$ [HP Hb1]
  · isplitr; · iexact Hr
    isplitl [HP]; · iexact HP
    rw [hs, hv]; iexact Hb1
  iintro ⟨HP, Hs⟩
  iapply (run_sendP X W c (.C d 0 0) l) $$ [HP Hb2]
  · isplitr; · iexact Hr
    isplitl [HP]; · iexact HP
    rw [show src (.C d 0 0) c = zSrc i' from h0]; iexact Hb2
  iintro ⟨HP, Hs'⟩
  iapply Hk
  isplitl [Ho]; · iapply (ownOk_any c d) $$ Ho
  isplitl [Hd]; · iexists _; iexact Hd
  isplitl [Hb3]; · iexact Hb3
  isplitl [HP]; · iexact HP
  isplitl [Hz]; · iexact Hz
  isplitl [Hs] <;> iassumption

/-! ## The result's tiles -/

/-- The result, all but the tiles `l` written. -/
def outRem (c : Dev nD) (l : List Tl) : sProp 𝕄 :=
  iprop(∃ Y : S2048x2048.Idx → Elt F .f32, ⌜∀ t, t ∉ l → ∀ i, Y ((oR c t).emb i) = vO X W c t i⌝ ∗ own c oM fullShare Y)

theorem run_stO {α : Type} {Q : α → sProp 𝕄} (c : Dev nD) (t : Tl) (l : List Tl) (off : Fin 2 → Nat) (ho : off = oOff c t)
    (hb : ∀ a, off a + S128x1024.size a ≤ S2048x2048.size a) (v : Vec F S128x1024 .f32) (hv : v = vO X W c t) (p : PUnit → P0 F α) :
    outRem X W c (t :: l) ⊢ iprop((outRem X W c l -∗ run c (p ⟨⟩) Q)
      -∗ run c (ld oM (Rect.unit (s := S2048x2048) off S128x1024.size hb) h_S128x1024
          >>= fun _ => st32 oM (Rect.unit (s := S2048x2048) off S128x1024.size hb) h_S128x1024 v >>= p) Q) := by
  subst ho hv
  unfold outRem
  iintro ⟨%Y, %hY, H⟩ Hk
  iapply (run_ld c) $$ H
  iintro H
  iapply (run_store c) $$ H
  iintro H
  iapply Hk
  iexists (oR c t).overlay Y (vO X W c t)
  isplitr
  · ipureintro
    intro t' ht' i
    by_cases he : t' = t
    · subst he; exact Rect.overlay_emb _ _ _ i
    · rw [Rect.overlay_of_not_mem]
      · exact hY t' (by simp [he, ht']) i
      · have hm : (oR c t').emb i ∈ (oR c t').set := by rw [← Rect.map_emb_univ]; exact Finset.mem_map_of_mem _ (Finset.mem_univ _)
        exact Finset.disjoint_left.mp (oR_disjoint c t' t he) hm
  · iexact H

theorem outRem_nil (c : Dev nD) : outRem X W c [] ⊢ own c oM fullShare (vOut X W c) := by
  unfold outRem
  haveI : Nonempty (Elt F .f32) := ⟨FloatOps.ofBits .f32 0⟩
  iintro ⟨%Y, %hY, H⟩
  rw [show Y = vOut X W c from eq_glue (oR c) (oR_disjoint c) (oR_cover c) (fun t => vO X W c t) Y (fun t j => hY t (by simp) j)]
  iexact H

theorem run_outP {α : Type} {Q : α → sProp 𝕄} (c : Dev nD) (m : VM S128x1024 .bf16) (d j : Fin 2) (l : List Tl)
    (q : PosShare TreeShare) (v : FVec F S128x1024 .bf16) (hv : pEx v = vO X W c (d, 0, j)) (p : PUnit → P0 F α) :
    iprop(own c m q v ∗ outRem X W c ((d, 0, j) :: l))
      ⊢ iprop((own c m q v ∗ outRem X W c l -∗ run c (p ⟨⟩) Q) -∗ run c (outP c m d j >>= p) Q) := by
  unfold outP
  simp only [bind_assoc]
  iintro ⟨Hm, Ho⟩ Hk
  iapply (run_ldF c) $$ Hm
  iintro Hm
  iapply (run_stO X W c (d, 0, j) l _ (fOff_eq d j c) _ _ hv) $$ Ho
  iintro Ho
  iapply Hk
  isplitl [Hm] <;> iassumption

/-! ## The gather ring -/

/-- A load of a gather slot. -/
theorem run_ldC {α : Type} {Q : α → sProp 𝕄} (c : Dev nD) (d : Fin 2) (h : Fin 7) (j : Fin 2) (off : Fin 3 → Nat) (ho : off = cOff h j c)
    (hb : ∀ a, off a + S1x128x1024.size a ≤ S8x256x1024.size a) (q : PosShare TreeShare) (v : FVec F S128x1024 .bf16)
    (p : Vec F S1x128x1024 .bf16 → P0 F α) :
    own c (dst (.C d h j) c) q v ⊢ iprop((own c (dst (.C d h j) c) q v -∗ run c (p (un3 v)) Q)
      -∗ run c (ld (cB d) (Rect.unit (s := S8x256x1024) off S1x128x1024.size hb) h_S1x128x1024 >>= p) Q) := by
  subst ho
  exact run_ld_slot c (r' := cR h j c) (m := cB d) (fun _ => rfl) squeezes_S1x128x1024_S128x1024

theorem run_tileP {α : Type} {Q : α → sProp 𝕄} (c : Dev nD) (h : Fin 7) (j d : Fin 2) (l : List Tl) (q : PosShare TreeShare)
    (p : PUnit → P0 F α) :
    iprop(own c (dst (.C d h j) c) q (got X W (.C d h j) c) ∗ outRem X W c ((d, h.succ, j) :: l))
      ⊢ iprop((own c (dst (.C d h j) c) q (got X W (.C d h j) c) ∗ outRem X W c l -∗ run c (p ⟨⟩) Q)
        -∗ run c (tileP c h j d >>= p) Q) := by
  unfold tileP
  simp only [bind_assoc]
  iintro ⟨Hm, Ho⟩ Hk
  iapply (run_ldC c d h j _ (lOff_eq h j c)) $$ Hm
  rw [rd3_un3]
  iintro Hm
  iapply (run_stO X W c (d, h.succ, j) l _ (gOff_eq d h j c) _ _ rfl) $$ Ho
  iintro Ho
  iapply Hk
  isplitl [Hm] <;> iassumption

theorem src_C_succ (d : Fin 2) (h : Fin 6) (j : Fin 2) (c : Dev nD) : src (.C d h.succ j) c = dst (.C d h.castSucc j) c := rfl
theorem shr_C_succ (d : Fin 2) (h : Fin 6) (j : Fin 2) : shr (.C d h.succ j) = fullShare.left := rfl

theorem run_gatP {α : Type} {Q : α → sProp 𝕄} (c : Dev nD) (h : Fin 6) (j d : Fin 2) (l : List Ck) (tl : List Tl)
    (hl : ∀ k' ∈ Ck.C d h.succ j :: l, lev (.C d h.castSucc j) < lev k') (p : PUnit → P0 F α) :
    iprop(recs X W ∗ outRem X W c ((d, h.castSucc.succ, j) :: tl) ∗ Pend c (.C d h.succ j :: l) ∗ recvRes c (.C d h.castSucc j))
      ⊢ iprop((outRem X W c tl ∗ Pend c l ∗ zer c (some (true, .C d h.castSucc j)) ∗ sent c (.C d h.succ j)
          ∗ own? c (dst (.C d h.castSucc j) c) fullShare.right -∗ run c (p ⟨⟩) Q)
        -∗ run c (gatP c (h, j, d) >>= p) Q) := by
  unfold gatP
  simp only [bind_assoc]
  iintro ⟨#Hr, Ho, HP, Hv⟩ Hk
  iapply (run_waitR X W c (.C d h.castSucc j) _ hl) $$ [HP Hv]
  · isplitr; · iexact Hr
    isplitl [HP] <;> iassumption
  iintro ⟨HP, Ha, Hz⟩
  ihave Ha := (own_halves c (dst (.C d h.castSucc j) c) fullShare (got X W (.C d h.castSucc j) c)).1 $$ Ha
  icases Ha with ⟨Ha1, Ha2⟩
  iapply (run_sendP X W c (.C d h.succ j) l) $$ [HP Ha1]
  · isplitr; · iexact Hr
    isplitl [HP]; · iexact HP
    rw [src_C_succ, shr_C_succ, ← vC_step]; iexact Ha1
  iintro ⟨HP, Hs⟩
  iapply (run_tileP X W c h.castSucc j d tl) $$ [Ho Ha2]
  · isplitl [Ha2] <;> iassumption
  iintro ⟨Ha2, Ho⟩
  iapply Hk
  isplitl [Ho]; · iexact Ho
  isplitl [HP]; · iexact HP
  isplitl [Hz]; · iexact Hz
  isplitl [Hs]; · iexact Hs
  iexists _; iexact Ha2

theorem run_gatLastP {α : Type} {Q : α → sProp 𝕄} (c : Dev nD) (j d : Fin 2) (tl : List Tl) (p : PUnit → P0 F α) :
    iprop(recs X W ∗ outRem X W c ((d, 7, j) :: tl) ∗ Pend c [] ∗ recvRes c (.C d 6 j))
      ⊢ iprop((outRem X W c tl ∗ Pend c [] ∗ zer c (some (true, .C d 6 j))
          ∗ own? c (dst (.C d 6 j) c) fullShare -∗ run c (p ⟨⟩) Q)
        -∗ run c (gatLastP c (j, d) >>= p) Q) := by
  unfold gatLastP
  simp only [bind_assoc]
  iintro ⟨#Hr, Ho, HP, Hv⟩ Hk
  iapply (run_waitR X W c (.C d 6 j) [] (by simp)) $$ [HP Hv]
  · isplitr; · iexact Hr
    isplitl [HP] <;> iassumption
  iintro ⟨HP, Ha, Hz⟩
  iapply (run_tileP X W c 6 j d tl) $$ [Ho Ha]
  · isplitl [Ha]; · iexact Ha
    iexact Ho
  iintro ⟨Ha, Ho⟩
  iapply Hk
  isplitl [Ho]; · iexact Ho
  isplitl [HP]; · iexact HP
  isplitl [Hz]; · iexact Hz
  iexists _; iexact Ha

end Blocks

end Cert.KernelIdeal.Body

end
-- ==== Proof.Phases.lean ====
/- The rule of each loop of the body, and of the exchanges between planes. -/
module

public import proofs.«01_k».proof.Proof.Blocks

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Phases
variable (X : Dev nD → Vec F S2048x64 .bf16) (W : Dev nD → Vec F S64x2048 .bf16)

theorem bigSepL_cc {ι : Type} (i j : ι) (l : List ι) (Φ : ι → sProp 𝕄) :
    bigSepL (i :: j :: l) Φ = iprop(Φ i ∗ bigSepL (j :: l) Φ) := rfl

theorem bigSepL_emp {ι : Type} : ∀ l : List ι, (iprop(emp) : sProp 𝕄) ⊢ bigSepL l fun _ => iprop(emp)
  | [] => .rfl
  | i :: l => by
    rw [bigSepL_cons']
    iintro -
    isplitr
    · iempintro
    · iapply (bigSepL_emp l); iempintro

/-! ## The loops -/

theorem phase_init (c : Dev nD) (tl : List Ck) (k : P0 F PUnit) (Q : PUnit → sProp 𝕄) :
    iprop(recs X W ∗ own c xM fullShare (X c) ∗ Pend c (([0, 1] : List (Fin 2)).flatMap iniK ++ tl)
        ∗ bigSepL [0, 1] (fun j => iprop(own? c (aSlot 0 0 j) fullShare ∗ own? c (aSlot 1 0 j) fullShare)))
      ⊢ iprop((own c xM fullShare (X c) ∗ Pend c tl ∗ bigSepL [0, 1] (fun j => iprop(sent c (.A 0 0 j) ∗ sent c (.A 1 0 j))) -∗ run c k Q)
        -∗ run c (forL [0, 1] (initP c (W c)) k) Q) := by
  iintro ⟨#Hr, Hx, HP, Ha⟩ Hk
  iapply (run_forL c (initP c (W c)) [0, 1]
    (fun rest => iprop(own c xM fullShare (X c) ∗ Pend c (rest.flatMap iniK ++ tl)))
    (fun j => iprop(recs X W ∗ own? c (aSlot 0 0 j) fullShare ∗ own? c (aSlot 1 0 j) fullShare))
    (fun j => iprop(sent c (.A 0 0 j) ∗ sent c (.A 1 0 j)))
    (fun j rest p Q hs => by
      iintro ⟨⟨Hx, HP⟩, #Hr, H0, H1⟩ Hk
      iapply (run_initP X W c j (rest.flatMap iniK ++ tl) p) $$ [Hx HP H0 H1]
      · isplitr; · iexact Hr
        isplitl [Hx]; · iexact Hx
        isplitl [H0]; · iexact H0
        isplitl [H1]; · iexact H1
        iexact HP
      iintro ⟨Hx, HP, Hs⟩
      iapply Hk
      isplitl [Hx HP]
      · isplitl [Hx]; · iexact Hx
        iexact HP
      iexact Hs) [0, 1] (List.suffix_refl _) k Q) $$ [Hx HP Ha]
  · isplitl [Hx HP]
    · isplitl [Hx]; · iexact Hx
      iexact HP
    · simp only [bigSepL_cc, bigSepL_singleton]
      icases Ha with ⟨Ha0, Ha1⟩
      isplitl [Ha0]
      · isplitr; · iexact Hr
        iexact Ha0
      · isplitr; · iexact Hr
        iexact Ha1
  iintro ⟨⟨Hx, HP⟩, Hs⟩
  iapply Hk
  isplitl [Hx]; · iexact Hx
  isplitl [HP]; · iexact HP
  iexact Hs

theorem phase_rel (c : Dev nD) (k : P0 F PUnit) (Q : PUnit → sProp 𝕄) :
    iprop(own c xM fullShare (X c) ∗ own? c (relB 0) fullShare ∗ own? c (relB 1) fullShare)
      ⊢ iprop((own c xM fullShare (X c) ∗ relAll X W c 0 ∗ relAll X W c 1 -∗ run c k Q)
        -∗ run c (forL [1, 2, 3, 4, 5, 6, 7] (relP c (W c)) k) Q) := by
  iintro ⟨Hx, ⟨%Y0, H0⟩, ⟨%Y1, H1⟩⟩ Hk
  iapply (run_forL c (relP c (W c)) [1, 2, 3, 4, 5, 6, 7]
    (fun rest => iprop(own c xM fullShare (X c) ∗ relOk X W c 0 (fun k => k ≠ 0 ∧ k ∉ rest) ∗ relOk X W c 1 (fun k => k ≠ 0 ∧ k ∉ rest)))
    (fun _ => iprop(emp)) (fun _ => iprop(emp))
    (fun k rest p Q hs => by
      iintro ⟨H, -⟩ Hk
      iapply (run_relP X W c k (fun k' => k' ≠ 0 ∧ k' ∉ k :: rest) (fun k' => k' ≠ 0 ∧ k' ∉ rest)
        (fun k' h => by
          by_cases he : k' = k
          · exact .inl he
          · exact .inr ⟨h.1, by simp [he, h.2]⟩) p) $$ H
      iintro H
      iapply Hk
      isplitl [H]; · iexact H
      iempintro) [1, 2, 3, 4, 5, 6, 7] (List.suffix_refl _) k Q) $$ [Hx H0 H1]
  · isplitl
    · isplitl [Hx]; · iexact Hx
      unfold relOk
      isplitl [H0]
      · iexists Y0
        isplitr
        · ipureintro; intro k hk; exfalso; revert k; decide
        · iexact H0
      · iexists Y1
        isplitr
        · ipureintro; intro k hk; exfalso; revert k; decide
        · iexact H1
    · iapply (bigSepL_emp (F := F) [1, 2, 3, 4, 5, 6, 7]); iempintro
  iintro ⟨H, -⟩
  iapply Hk
  have hD : (fun k : Fin 8 => k ≠ 0 ∧ k ∉ ([] : List (Fin 8))) = (· ≠ 0) := by funext k; simp
  rw [hD]
  iexact H

theorem ordS_level (tl : List Ck) (i : Fin 6 × Fin 2 × Fin 2) (rest : List (Fin 6 × Fin 2 × Fin 2)) (hs : (i :: rest) <:+ ordS) :
    ∀ i' ∈ rest, i.1 ≤ i'.1 := by
  have := ordS_sorted.sublist hs.sublist
  exact fun i' h => List.rel_of_pairwise_cons this h

theorem phase_acc (c : Dev nD) (tl : List Ck) (htl : ∀ k ∈ tl, 8 ≤ lev k) (k : P0 F PUnit) (Q : PUnit → sProp 𝕄) :
    iprop(recs X W ∗ (relAll X W c 0 ∗ relAll X W c 1) ∗ Pend c (ordS.map accK ++ tl)
        ∗ bigSepL ordS (fun i => recvRes c (.A i.2.2 i.1.castSucc i.2.1)))
      ⊢ iprop(((relAll X W c 0 ∗ relAll X W c 1) ∗ Pend c tl
          ∗ bigSepL ordS (fun i => iprop(zer c (some (true, .A i.2.2 i.1.castSucc i.2.1)) ∗ sent c (accK i))) -∗ run c k Q)
        -∗ run c (forL ordS (accP c) k) Q) := by
  iintro ⟨#Hr, Hx, HP, Ha⟩ Hk
  iapply (run_forL c (accP c) ordS
    (fun rest => iprop(recs X W ∗ (relAll X W c 0 ∗ relAll X W c 1) ∗ Pend c (rest.map accK ++ tl)))
    (fun i => recvRes c (.A i.2.2 i.1.castSucc i.2.1))
    (fun i => iprop(zer c (some (true, .A i.2.2 i.1.castSucc i.2.1)) ∗ sent c (accK i)))
    (fun i rest p Q hs => by
      have hlev : ∀ k' ∈ Ck.A i.2.2 i.1.succ i.2.1 :: (rest.map accK ++ tl), lev (.A i.2.2 i.1.castSucc i.2.1) < lev k' := by
        have h0 := i.1.isLt
        intro k' hk'
        rcases List.mem_cons.mp hk' with rfl | hk'
        · show 2 + i.1.val < 2 + (i.1.val + 1); omega
        rcases List.mem_append.mp hk' with hk' | hk'
        · obtain ⟨i', hi', rfl⟩ := List.mem_map.mp hk'
          have := ordS_level [] i rest hs i' hi'
          show 2 + i.1.val < 2 + (i'.1.val + 1)
          have : i.1.val ≤ i'.1.val := this
          omega
        · have := htl k' hk'
          show 2 + i.1.val < lev k'
          omega
      obtain ⟨s, j, d⟩ := i
      iintro ⟨⟨#Hr, ⟨H0, H1⟩, HP⟩, Hv⟩ Hk
      fin_cases d
      · iapply (run_accP X W c s j 0 (rest.map accK ++ tl) hlev p) $$ [H0 HP Hv]
        · isplitr; · iexact Hr
          isplitl [H0]; · iexact H0
          isplitl [HP]; · iexact HP
          iexact Hv
        iintro ⟨H0, HP, Hz⟩
        iapply Hk
        isplitl [H0 H1 HP]
        · isplitr; · iexact Hr
          isplitl [H0 H1]
          · isplitl [H0]; · iexact H0
            iexact H1
          iexact HP
        iexact Hz
      · iapply (run_accP X W c s j 1 (rest.map accK ++ tl) hlev p) $$ [H1 HP Hv]
        · isplitr; · iexact Hr
          isplitl [H1]; · iexact H1
          isplitl [HP]; · iexact HP
          iexact Hv
        iintro ⟨H1, HP, Hz⟩
        iapply Hk
        isplitl [H0 H1 HP]
        · isplitr; · iexact Hr
          isplitl [H0 H1]
          · isplitl [H0]; · iexact H0
            iexact H1
          iexact HP
        iexact Hz) ordS (List.suffix_refl _) k Q) $$ [Hx HP Ha]
  · isplitl [Hx HP]
    · isplitr; · iexact Hr
      isplitl [Hx]; · iexact Hx
      iexact HP
    · iexact Ha
  iintro ⟨⟨-, Hx, HP⟩, Hs⟩
  iapply Hk
  isplitl [Hx]; · iexact Hx
  isplitl [HP]; · iexact HP
  iexact Hs

/-- The tile a step of the gather ring writes, -/
abbrev gatT (i : Fin 6 × Fin 2 × Fin 2) : Tl := (i.2.2, i.1.castSucc.succ, i.2.1)
/-- and the last step. -/
abbrev lastT (i : Fin 2 × Fin 2) : Tl := (i.2, 7, i.1)

theorem phase_gat (c : Dev nD) (tl : List Tl) (k : P0 F PUnit) (Q : PUnit → sProp 𝕄) :
    iprop(recs X W ∗ outRem X W c (ordS.map gatT ++ tl) ∗ Pend c (ordS.map gatK)
        ∗ bigSepL ordS (fun i => recvRes c (.C i.2.2 i.1.castSucc i.2.1)))
      ⊢ iprop((outRem X W c tl ∗ Pend c []
          ∗ bigSepL ordS (fun i => iprop(zer c (some (true, .C i.2.2 i.1.castSucc i.2.1)) ∗ sent c (gatK i)
              ∗ own? c (dst (.C i.2.2 i.1.castSucc i.2.1) c) fullShare.right)) -∗ run c k Q)
        -∗ run c (forL ordS (gatP c) k) Q) := by
  iintro ⟨#Hr, Hx, HP, Ha⟩ Hk
  iapply (run_forL c (gatP c) ordS
    (fun rest => iprop(recs X W ∗ outRem X W c (rest.map gatT ++ tl) ∗ Pend c (rest.map gatK)))
    (fun i => recvRes c (.C i.2.2 i.1.castSucc i.2.1))
    (fun i => iprop(zer c (some (true, .C i.2.2 i.1.castSucc i.2.1)) ∗ sent c (gatK i)
      ∗ own? c (dst (.C i.2.2 i.1.castSucc i.2.1) c) fullShare.right))
    (fun i rest p Q hs => by
      have hlev : ∀ k' ∈ Ck.C i.2.2 i.1.succ i.2.1 :: (rest.map gatK), lev (.C i.2.2 i.1.castSucc i.2.1) < lev k' := by
        intro k' hk'
        rcases List.mem_cons.mp hk' with rfl | hk'
        · show 13 + i.1.val < 13 + (i.1.val + 1); omega
        · obtain ⟨i', hi', rfl⟩ := List.mem_map.mp hk'
          have := ordS_level [] i rest hs i' hi'
          show 13 + i.1.val < 13 + (i'.1.val + 1)
          have : i.1.val ≤ i'.1.val := this
          omega
      iintro ⟨⟨#Hr, Ho, HP⟩, Hv⟩ Hk
      iapply (run_gatP X W c i.1 i.2.1 i.2.2 (rest.map gatK) (rest.map gatT ++ tl) hlev p) $$ [Ho HP Hv]
      · isplitr; · iexact Hr
        isplitl [Ho]; · iexact Ho
        isplitl [HP]; · iexact HP
        iexact Hv
      iintro ⟨Ho, HP, Hz⟩
      iapply Hk
      isplitl [Ho HP]
      · isplitr; · iexact Hr
        isplitl [Ho]; · iexact Ho
        iexact HP
      iexact Hz) ordS (List.suffix_refl _) k Q) $$ [Hx HP Ha]
  · isplitl [Hx HP]
    · isplitr; · iexact Hr
      isplitl [Hx]; · iexact Hx
      iexact HP
    · iexact Ha
  iintro ⟨⟨-, Hx, HP⟩, Hs⟩
  iapply Hk
  isplitl [Hx]; · iexact Hx
  isplitl [HP]; · iexact HP
  iexact Hs

theorem phase_gatLast (c : Dev nD) (k : P0 F PUnit) (Q : PUnit → sProp 𝕄) :
    iprop(recs X W ∗ outRem X W c (ord4.map lastT) ∗ Pend c []
        ∗ bigSepL ord4 (fun i => recvRes c (.C i.2 6 i.1)))
      ⊢ iprop((outRem X W c [] ∗ Pend c []
          ∗ bigSepL ord4 (fun i => iprop(zer c (some (true, .C i.2 6 i.1)) ∗ own? c (dst (.C i.2 6 i.1) c) fullShare)) -∗ run c k Q)
        -∗ run c (forL ord4 (gatLastP c) k) Q) := by
  iintro ⟨#Hr, Hx, HP, Ha⟩ Hk
  iapply (run_forL c (gatLastP c) ord4
    (fun rest => iprop(recs X W ∗ outRem X W c (rest.map lastT) ∗ Pend c []))
    (fun i => recvRes c (.C i.2 6 i.1))
    (fun i => iprop(zer c (some (true, .C i.2 6 i.1)) ∗ own? c (dst (.C i.2 6 i.1) c) fullShare))
    (fun i rest p Q hs => by
      iintro ⟨⟨#Hr, Ho, HP⟩, Hv⟩ Hk
      iapply (run_gatLastP X W c i.1 i.2 (rest.map lastT) p) $$ [Ho HP Hv]
      · isplitr; · iexact Hr
        isplitl [Ho]; · iexact Ho
        isplitl [HP]; · iexact HP
        iexact Hv
      iintro ⟨Ho, HP, Hz⟩
      iapply Hk
      isplitl [Ho HP]
      · isplitr; · iexact Hr
        isplitl [Ho]; · iexact Ho
        iexact HP
      iexact Hz) ord4 (List.suffix_refl _) k Q) $$ [Hx HP Ha]
  · isplitl [Hx HP]
    · isplitr; · iexact Hr
      isplitl [Hx]; · iexact Hx
      iexact HP
    · iexact Ha
  iintro ⟨⟨-, Hx, HP⟩, Hs⟩
  iapply Hk
  isplitl [Hx]; · iexact Hx
  isplitl [HP]; · iexact HP
  iexact Hs

theorem phase_wait (c : Dev nD) (k : P0 F PUnit) (Q : PUnit → sProp 𝕄) :
    iprop(recs X W ∗ Owe c [] ∗ bigSepL ordK (fun i => sent c i))
      ⊢ iprop((Owe c [] ∗ bigSepL ordK (fun i => iprop(own c (src i c) (shr i) (val X W i c) ∗ zer c (some (false, i)))) -∗ run c k Q)
        -∗ run c (forL ordK (fun i => waitS i c) k) Q) := by
  iintro ⟨#Hr, HP, Ha⟩ Hk
  iapply (run_forL c (fun i => waitS i c) ordK (fun rest => iprop(recs X W ∗ Owe c []))
    (fun i => sent c i) (fun i => iprop(own c (src i c) (shr i) (val X W i c) ∗ zer c (some (false, i))))
    (fun i rest p Q hs => by
      iintro ⟨⟨#Hr, HP⟩, Hv⟩ Hk
      iapply (run_waitS X W c i p) $$ [HP Hv]
      · isplitr; · iexact Hr
        isplitl [HP]; · iexact HP
        iexact Hv
      iintro ⟨HP, Hz⟩
      iapply Hk
      isplitl [HP]
      · isplitr; · iexact Hr
        iexact HP
      iexact Hz) ordK (List.suffix_refl _) k Q) $$ [HP Ha]
  · isplitl [HP]
    · isplitr; · iexact Hr
      iexact HP
    · iexact Ha
  iintro ⟨⟨-, HP⟩, Hs⟩
  iapply Hk
  isplitl [HP]; · iexact HP
  iexact Hs

/-! ## The exchanges between planes -/

/-- The landings the exchanges wait for, in order. -/
def midV : List Ck := [.A 0 6 0, .A 1 6 0, .A 0 6 1, .A 1 6 1, .Z 0, .Z 1, .Z 2, .Z 3, .Z 4, .Z 5]
/-- The tiles they write. -/
def midT : List Tl := [(0, 0, 0), (1, 0, 0), (0, 0, 1), (1, 0, 1)]

/-- What the exchanges leave of the buffers. -/
def midKeep (c : Dev nD) : sProp 𝕄 :=
  iprop((own? (F := F) c (ownB 0) fullShare ∗ own? (F := F) c (ownB 1) fullShare)
    ∗ (own? (F := F) c (zDst 0) fullShare ∗ own? (F := F) c (zDst 1) fullShare ∗ own? (F := F) c (zDst 2) fullShare ∗ own? (F := F) c (zDst 3) fullShare
      ∗ own? (F := F) c (zDst 4) fullShare.right ∗ own? (F := F) c (zDst 5) fullShare.right)
    ∗ (own? (F := F) c (zSrc 4) fullShare.right.right ∗ own? (F := F) c (zSrc 5) fullShare.right.right)
    ∗ (own? (F := F) c (aSlot 0 7 0) fullShare ∗ own? (F := F) c (aSlot 1 7 0) fullShare ∗ own? (F := F) c (aSlot 0 7 1) fullShare ∗ own? (F := F) c (aSlot 1 7 1) fullShare))

theorem mid_level (tl : List Ck) (htl : ∀ k ∈ tl, 14 ≤ lev k) (k : Ck) (l : List Ck) (hk : lev k < 14)
    (hl : ∀ k' ∈ l, lev k < lev k') : ∀ k' ∈ l ++ tl, lev k < lev k' := fun k' h =>
  (List.mem_append.mp h).elim (hl k') (fun h => lt_of_lt_of_le hk (htl k' h))

theorem vC_zero (d : Fin 2) (c : Dev nD) : vC X W d 0 0 c = vQuad X W d c := rfl
theorem vC_one (d : Fin 2) (c : Dev nD) : vC X W d 1 0 c = vQuad X W d (nb 3 c) := rfl

theorem phase_mid (c : Dev nD) (tl : List Ck) (htl : ∀ k ∈ tl, 14 ≤ lev k) (tt : List Tl) (k : P0 F PUnit) (Q : PUnit → sProp 𝕄) :
    iprop(recs X W ∗ (relAll X W c 0 ∗ relAll X W c 1) ∗ (own? c (ownB 0) fullShare ∗ own? c (ownB 1) fullShare)
        ∗ bigSepL [0, 1, 2, 3, 4, 5] (fun i => own? (F := F) c (zSrc i) fullShare)
        ∗ outRem X W c (midT ++ tt) ∗ Pend c (midK ++ tl) ∗ bigSepL midV (fun i => recvRes c i))
      ⊢ iprop(((relAll X W c 0 ∗ relAll X W c 1) ∗ midKeep c ∗ outRem X W c tt ∗ Pend c tl
          ∗ bigSepL midV (fun i => zer c (some (true, i))) ∗ bigSepL midK (fun i => sent c i) -∗ run c k Q)
        -∗ run c (midP c k) Q) := by
  unfold midP midKeep midV midK midT
  simp only [bigSepL_cc, bigSepL_singleton, List.cons_append, List.nil_append]
  iintro ⟨#Hr, ⟨Hr0, Hr1⟩, ⟨Ho0, Ho1⟩, ⟨Hs0, Hs1, Hs2, Hs3, Hs4, Hs5⟩, Ho, HP, ⟨Va0, Va1, Va2, Va3, Vz0, Vz1, Vz2, Vz3, Vz4, Vz5⟩⟩ Hk
  iapply (run_lastSendP X W c 0 0 _ rfl rfl (mid_level tl htl _ [.Z 0, .Z 1, .Z 2, .Z 3, .Z 4, .C 0 0 0, .Z 5, .C 1 0 0, .C 0 0 1, .C 1 0 1] (by decide) (by decide))) $$ [Hr0 Ho0 Hs0 HP Va0]
  · isplitr; · iexact Hr
    isplitl [Hr0]; · iexact Hr0
    isplitl [Ho0]; · iexact Ho0
    isplitl [Hs0]; · iexact Hs0
    isplitl [HP]; · iexact HP
    iexact Va0
  iintro ⟨Hr0, Ho0, HP, K0, Za0, Sz0⟩
  iapply (run_lastSendP X W c 1 1 _ rfl rfl (mid_level tl htl _ [.Z 1, .Z 2, .Z 3, .Z 4, .C 0 0 0, .Z 5, .C 1 0 0, .C 0 0 1, .C 1 0 1] (by decide) (by decide))) $$ [Hr1 Ho1 Hs1 HP Va1]
  · isplitr; · iexact Hr
    isplitl [Hr1]; · iexact Hr1
    isplitl [Ho1]; · iexact Ho1
    isplitl [Hs1]; · iexact Hs1
    isplitl [HP]; · iexact HP
    iexact Va1
  iintro ⟨Hr1, Ho1, HP, K1, Za1, Sz1⟩
  iapply (run_lastP X W c 1 0 _ (mid_level tl htl _ [.Z 2, .Z 3, .Z 4, .C 0 0 0, .Z 5, .C 1 0 0, .C 0 0 1, .C 1 0 1] (by decide) (by decide))) $$ [Hr0 Ho0 HP Va2]
  · isplitr; · iexact Hr
    isplitl [Hr0]; · iexact Hr0
    isplitl [Ho0]; · iexact Ho0
    isplitl [HP]; · iexact HP
    iexact Va2
  iintro ⟨Hr0, Ho0, HP, K2, Za2⟩
  iapply (run_lastP X W c 1 1 _ (mid_level tl htl _ [.Z 2, .Z 3, .Z 4, .C 0 0 0, .Z 5, .C 1 0 0, .C 0 0 1, .C 1 0 1] (by decide) (by decide))) $$ [Hr1 Ho1 HP Va3]
  · isplitr; · iexact Hr
    isplitl [Hr1]; · iexact Hr1
    isplitl [Ho1]; · iexact Ho1
    isplitl [HP]; · iexact HP
    iexact Va3
  iintro ⟨Hr1, Ho1, HP, K3, Za3⟩
  iapply (run_pairP X W c 0 2 0 _ rfl rfl rfl (mid_level tl htl _ [.Z 2, .Z 3, .Z 4, .C 0 0 0, .Z 5, .C 1 0 0, .C 0 0 1, .C 1 0 1] (by decide) (by decide))) $$ [Ho0 Hs2 HP Vz0]
  · isplitr; · iexact Hr
    isplitl [Ho0]; · unfold ownOk; iexact Ho0
    isplitl [Hs2]; · iexact Hs2
    isplitl [HP]; · iexact HP
    iexact Vz0
  iintro ⟨Ho0, D0, HP, Zz0, Sz2⟩
  iapply (run_pairP X W c 1 3 1 _ rfl rfl rfl (mid_level tl htl _ [.Z 3, .Z 4, .C 0 0 0, .Z 5, .C 1 0 0, .C 0 0 1, .C 1 0 1] (by decide) (by decide))) $$ [Ho1 Hs3 HP Vz1]
  · isplitr; · iexact Hr
    isplitl [Ho1]; · unfold ownOk; iexact Ho1
    isplitl [Hs3]; · iexact Hs3
    isplitl [HP]; · iexact HP
    iexact Vz1
  iintro ⟨Ho1, D1, HP, Zz1, Sz3⟩
  iapply (run_quadP X W c 2 4 0 _ rfl rfl rfl rfl (mid_level tl htl _ [.Z 4, .C 0 0 0, .Z 5, .C 1 0 0, .C 0 0 1, .C 1 0 1] (by decide) (by decide))) $$ [Ho0 Hs4 HP Vz2]
  · isplitr; · iexact Hr
    isplitl [Ho0]; · iexact Ho0
    isplitl [Hs4]; · iexact Hs4
    isplitl [HP]; · iexact HP
    iexact Vz2
  iintro ⟨Ho0, D2, E4, HP, Zz2, Sz4, Sc0⟩
  iapply (run_quadP X W c 3 5 1 _ rfl rfl rfl rfl (mid_level tl htl _ [.Z 5, .C 1 0 0, .C 0 0 1, .C 1 0 1] (by decide) (by decide))) $$ [Ho1 Hs5 HP Vz3]
  · isplitr; · iexact Hr
    isplitl [Ho1]; · iexact Ho1
    isplitl [Hs5]; · iexact Hs5
    isplitl [HP]; · iexact HP
    iexact Vz3
  iintro ⟨Ho1, D3, E5, HP, Zz3, Sz5, Sc1⟩
  iapply (run_outP X W c (zSrc 4) 0 0 _ _ _ rfl) $$ [E4 Ho]
  · isplitl [E4]; · iexact E4
    iexact Ho
  iintro ⟨E4, Ho⟩
  iapply (run_outP X W c (zSrc 5) 1 0 _ _ _ rfl) $$ [E5 Ho]
  · isplitl [E5]; · iexact E5
    iexact Ho
  iintro ⟨E5, Ho⟩
  iapply (run_waitR X W c (.Z 4) _ (mid_level tl htl _ [.C 0 0 1, .C 1 0 1] (by decide) (by decide))) $$ [HP Vz4]
  · isplitr; · iexact Hr
    isplitl [HP]; · iexact HP
    iexact Vz4
  iintro ⟨HP, D4, Zz4⟩
  ihave D4 := (own_halves c (dst (.Z 4) c) fullShare (got X W (.Z 4) c)).1 $$ D4
  icases D4 with ⟨D4l, D4⟩
  iapply (run_sendP X W c (.C 0 0 1) _) $$ [HP D4l]
  · isplitr; · iexact Hr
    isplitl [HP]; · iexact HP
    iexact D4l
  iintro ⟨HP, Sc2⟩
  iapply (run_waitR X W c (.Z 5) _ (mid_level tl htl _ [.C 1 0 1] (by decide) (by decide))) $$ [HP Vz5]
  · isplitr; · iexact Hr
    isplitl [HP]; · iexact HP
    iexact Vz5
  iintro ⟨HP, D5, Zz5⟩
  ihave D5 := (own_halves c (dst (.Z 5) c) fullShare (got X W (.Z 5) c)).1 $$ D5
  icases D5 with ⟨D5l, D5⟩
  iapply (run_sendP X W c (.C 1 0 1) _) $$ [HP D5l]
  · isplitr; · iexact Hr
    isplitl [HP]; · iexact HP
    iexact D5l
  iintro ⟨HP, Sc3⟩
  iapply (run_outP X W c (zDst 4) 0 1 _ _ _ rfl) $$ [D4 Ho]
  · isplitl [D4]; · iexact D4
    iexact Ho
  iintro ⟨D4, Ho⟩
  iapply (run_outP X W c (zDst 5) 1 1 _ _ _ rfl) $$ [D5 Ho]
  · isplitl [D5]; · iexact D5
    iexact Ho
  iintro ⟨D5, Ho⟩
  iapply Hk
  isplitl [Hr0 Hr1]
  · isplitl [Hr0]; · iexact Hr0
    iexact Hr1
  isplitl [Ho0 Ho1 D0 D1 D2 D3 D4 D5 E4 E5 K0 K1 K2 K3]
  · isplitl [Ho0 Ho1]
    · isplitl [Ho0]; · iexact Ho0
      iexact Ho1
    isplitl [D0 D1 D2 D3 D4 D5]
    · isplitl [D0]; · iexact D0
      isplitl [D1]; · iexact D1
      isplitl [D2]; · iexact D2
      isplitl [D3]; · iexact D3
      isplitl [D4]
      · iexists _; iexact D4
      · iexists _; iexact D5
    isplitl [E4 E5]
    · isplitl [E4]
      · iexists _; iexact E4
      · iexists _; iexact E5
    isplitl [K0]; · iexact K0
    isplitl [K1]; · iexact K1
    isplitl [K2]; · iexact K2
    iexact K3
  isplitl [Ho]; · iexact Ho
  isplitl [HP]; · iexact HP
  isplitl [Za0 Za1 Za2 Za3 Zz0 Zz1 Zz2 Zz3 Zz4 Zz5]
  · isplitl [Za0]; · iexact Za0
    isplitl [Za1]; · iexact Za1
    isplitl [Za2]; · iexact Za2
    isplitl [Za3]; · iexact Za3
    isplitl [Zz0]; · iexact Zz0
    isplitl [Zz1]; · iexact Zz1
    isplitl [Zz2]; · iexact Zz2
    isplitl [Zz3]; · iexact Zz3
    isplitl [Zz4]; · iexact Zz4
    iexact Zz5
  isplitl [Sz0]; · iexact Sz0
  isplitl [Sz1]; · iexact Sz1
  isplitl [Sz2]; · iexact Sz2
  isplitl [Sz3]; · iexact Sz3
  isplitl [Sz4]; · iexact Sz4
  isplitl [Sc0]; · iexact Sc0
  isplitl [Sz5]; · iexact Sz5
  isplitl [Sc1]; · iexact Sc1
  isplitl [Sc2]; · iexact Sc2
  iexact Sc3

end Phases

end Cert.KernelIdeal.Body

end
-- ==== Proof.Pieces.lean ====
/- The scratch buffers cut into the pieces the body works on, and the copies in their families. -/
module

public import proofs.«01_k».proof.Proof.Phases

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Pieces

theorem bigSep_two {A B T : Type} [Fintype A] [Fintype B] [Fintype T] (f : A → T) (g : B → T)
    (h : Function.Bijective (Sum.elim f g)) (Φ : T → sProp 𝕄) :
    bigSep Finset.univ Φ = iprop((bigSep Finset.univ fun a => Φ (f a)) ∗ (bigSep Finset.univ fun b => Φ (g b))) := by
  rw [bigSep_univ_equiv (Equiv.ofBijective _ h), bigSep_univ_sum]; rfl

/-! ## The slots of the two rings -/

theorem own?_squeeze {s : Shape} {e : EltTy} (c : Dev nD) (m : VM s e) (s' : Shape) (h : s.Squeezes s') (q : PosShare TreeShare) :
    (own? c (m.squeeze s' h) q : sProp 𝕄) ⊣⊢ own? c m q := by
  constructor
  · iintro ⟨%X, H⟩
    have hX : X = fun j => (fun i => X ((Shape.reshapeEquiv h.numel_eq).symm i)) (Shape.reshapeEquiv h.numel_eq j) := by
      funext j; simp
    iexists (fun i => X ((Shape.reshapeEquiv h.numel_eq).symm i))
    rw [← own_squeeze c m s' h q]
    rw [← hX]
    iexact H
  · iintro ⟨%X, H⟩
    iexists (fun j => X (Shape.reshapeEquiv h.numel_eq j))
    rw [own_squeeze c m s' h q]
    iexact H

/-- A gather slot at any place of the ring. -/
abbrev cQ (d : Fin 2) (q : Fin 8) (j : Fin 2) (c : Dev nD) : VM S128x1024 .bf16 :=
  ((cB d).slice (cRs c (q, j)) (fun _ => rfl)).squeeze S128x1024 squeezes_S1x128x1024_S128x1024
theorem dst_cQ (d : Fin 2) (h : Fin 7) (j : Fin 2) (c : Dev nD) : dst (.C d h j) c = cQ d h.succ j c := by
  show cSlot d h j c = _
  exact slotAt_congr _ _ _ _ (cOff_cq h j c)

instance (e : EltTy) : Nonempty (Elt F e) := by
  cases e <;> first | exact ⟨FloatOps.ofBits _ 0⟩ | exact ⟨(0 : BitVec _)⟩

theorem own_any {s : Shape} {e : EltTy} (c : Dev nD) (m : VM s e) (q : PosShare TreeShare) (X : s.Idx → Elt F e) :
    own c m q X ⊢ (own? c m q : sProp 𝕄) := by
  iintro H; iexists _; iexact H

section
variable {s : Shape} {e : EltTy} {T : Type} [Fintype T] [DecidableEq T] (c : Dev nD) (m : VM s e)
  (r : T → Rect s) (hr : ∀ t a, (r t).stride a = 1) (hd : ∀ t t', t ≠ t' → Disjoint (r t).set (r t').set)
  (hcov : ∀ i, ∃ t, i ∈ (r t).set) (s' : Shape) (hq : ∀ t, (r t).shape.Squeezes s')
include hd hcov
theorem open_slots : (own? c m fullShare : sProp 𝕄) ⊢ bigSep Finset.univ fun t => own? c ((m.slice (r t) (hr t)).squeeze s' (hq t)) fullShare := by
  refine BIBase.Entails.trans (Q := bigSep Finset.univ fun t => own? c (m.slice (r t) (hr t)) fullShare) ?_
    (bigSep_mono fun t _ => (own?_squeeze c (m.slice (r t) (hr t)) s' (hq t) fullShare).2)
  iintro ⟨%X, H⟩
  have h : (bigSep Finset.univ fun t => own c (m.slice (r t) (hr t)) fullShare (fun j => X ((r t).emb j)) : sProp 𝕄)
      ⊢ bigSep Finset.univ fun t => own? c (m.slice (r t) (hr t)) fullShare := bigSep_mono fun t _ => own_any c _ _ _
  ihave H := ((own_split c m r hr hd hcov fullShare X).trans h) $$ H
  iexact H
theorem close_slots : (bigSep Finset.univ fun t => own? c ((m.slice (r t) (hr t)).squeeze s' (hq t)) fullShare) ⊢ (own? c m fullShare : sProp 𝕄) :=
  (bigSep_mono fun t _ => (own?_squeeze c (m.slice (r t) (hr t)) s' (hq t) fullShare).1).trans (own_join c m r hr hd hcov)
end

theorem open_a (c : Dev nD) : iprop(own? c (aB 0) fullShare ∗ own? c (aB 1) fullShare)
    ⊢ (bigSep Finset.univ fun t : Tl => own? (F := F) c (aSlot t.1 t.2.1 t.2.2) fullShare) := by
  rw [bigSep_univ_prod, bigSep_fin_two]
  exact BIClass.sep_mono
    (open_slots c (aB 0) aRs (fun _ _ => rfl) aRs_disjoint aRs_cover S128x1024 (fun _ => squeezes_S1x1x128x1024_S128x1024))
    (open_slots c (aB 1) aRs (fun _ _ => rfl) aRs_disjoint aRs_cover S128x1024 (fun _ => squeezes_S1x1x128x1024_S128x1024))
theorem close_a (c : Dev nD) : (bigSep Finset.univ fun t : Tl => own? (F := F) c (aSlot t.1 t.2.1 t.2.2) fullShare)
    ⊢ iprop(own? c (aB 0) fullShare ∗ own? c (aB 1) fullShare) := by
  rw [bigSep_univ_prod, bigSep_fin_two]
  exact BIClass.sep_mono
    (close_slots c (aB 0) aRs (fun _ _ => rfl) aRs_disjoint aRs_cover S128x1024 (fun _ => squeezes_S1x1x128x1024_S128x1024))
    (close_slots c (aB 1) aRs (fun _ _ => rfl) aRs_disjoint aRs_cover S128x1024 (fun _ => squeezes_S1x1x128x1024_S128x1024))
theorem open_c (c : Dev nD) : iprop(own? c (cB 0) fullShare ∗ own? c (cB 1) fullShare)
    ⊢ (bigSep Finset.univ fun t : Tl => own? (F := F) c (cQ t.1 t.2.1 t.2.2 c) fullShare) := by
  rw [bigSep_univ_prod, bigSep_fin_two]
  exact BIClass.sep_mono
    (open_slots c (cB 0) (cRs c) (fun _ _ => rfl) (cRs_disjoint c) (cRs_cover c) S128x1024 (fun _ => squeezes_S1x128x1024_S128x1024))
    (open_slots c (cB 1) (cRs c) (fun _ _ => rfl) (cRs_disjoint c) (cRs_cover c) S128x1024 (fun _ => squeezes_S1x128x1024_S128x1024))
theorem close_c (c : Dev nD) : (bigSep Finset.univ fun t : Tl => own? (F := F) c (cQ t.1 t.2.1 t.2.2 c) fullShare)
    ⊢ iprop(own? c (cB 0) fullShare ∗ own? c (cB 1) fullShare) := by
  rw [bigSep_univ_prod, bigSep_fin_two]
  exact BIClass.sep_mono
    (close_slots c (cB 0) (cRs c) (fun _ _ => rfl) (cRs_disjoint c) (cRs_cover c) S128x1024 (fun _ => squeezes_S1x128x1024_S128x1024))
    (close_slots c (cB 1) (cRs c) (fun _ _ => rfl) (cRs_disjoint c) (cRs_cover c) S128x1024 (fun _ => squeezes_S1x128x1024_S128x1024))

/-! ## Families of the copies -/

theorem bigSep_ck (Φ : Ck → sProp 𝕄) : bigSep Finset.univ Φ
    = iprop((bigSep Finset.univ fun t : Fin 2 × Fin 7 × Fin 2 => Φ (.A t.1 t.2.1 t.2.2))
      ∗ (bigSep Finset.univ fun i : Fin 6 => Φ (.Z i))
      ∗ (bigSep Finset.univ fun t : Fin 2 × Fin 7 × Fin 2 => Φ (.C t.1 t.2.1 t.2.2))) := by
  rw [bigSep_univ_equiv Ck.equiv, bigSep_univ_sum, bigSep_univ_sum]; rfl

/-- The reduce ring's slots: all but the first of each ring, and the first; -/
theorem slots_succ (Φ : Tl → sProp 𝕄) : bigSep Finset.univ Φ
    = iprop((bigSep Finset.univ fun t : Fin 2 × Fin 7 × Fin 2 => Φ (t.1, t.2.1.succ, t.2.2))
      ∗ (bigSep Finset.univ fun t : Fin 2 × Fin 2 => Φ (t.2, 0, t.1))) :=
  bigSep_two (fun t : Fin 2 × Fin 7 × Fin 2 => ((t.1, t.2.1.succ, t.2.2) : Tl)) (fun t : Fin 2 × Fin 2 => ((t.2, 0, t.1) : Tl))
    (by decide +kernel) Φ
/-- all but the last, and the last. -/
theorem slots_castSucc (Φ : Tl → sProp 𝕄) : bigSep Finset.univ Φ
    = iprop((bigSep Finset.univ fun t : Fin 2 × Fin 7 × Fin 2 => Φ (t.1, t.2.1.castSucc, t.2.2))
      ∗ (bigSep Finset.univ fun t : Fin 2 × Fin 2 => Φ (t.2, 7, t.1))) :=
  bigSep_two (fun t : Fin 2 × Fin 7 × Fin 2 => ((t.1, t.2.1.castSucc, t.2.2) : Tl)) (fun t : Fin 2 × Fin 2 => ((t.2, 7, t.1) : Tl))
    (by decide +kernel) Φ
/-- The hops of the gather ring: the first, and those of its steps; -/
theorem hops_succ (Φ : Fin 2 × Fin 7 × Fin 2 → sProp 𝕄) : bigSep Finset.univ Φ
    = iprop((bigSep Finset.univ fun t : Fin 6 × Fin 2 × Fin 2 => Φ (t.2.2, t.1.succ, t.2.1))
      ∗ (bigSep Finset.univ fun t : Fin 2 × Fin 2 => Φ (t.2, 0, t.1))) :=
  bigSep_two (fun t : Fin 6 × Fin 2 × Fin 2 => ((t.2.2, t.1.succ, t.2.1) : Fin 2 × Fin 7 × Fin 2))
    (fun t : Fin 2 × Fin 2 => ((t.2, 0, t.1) : Fin 2 × Fin 7 × Fin 2)) (by decide +kernel) Φ
/-- those of its steps, and the last. -/
theorem hops_castSucc (Φ : Fin 2 × Fin 7 × Fin 2 → sProp 𝕄) : bigSep Finset.univ Φ
    = iprop((bigSep Finset.univ fun t : Fin 6 × Fin 2 × Fin 2 => Φ (t.2.2, t.1.castSucc, t.2.1))
      ∗ (bigSep Finset.univ fun t : Fin 2 × Fin 2 => Φ (t.2, 6, t.1))) :=
  bigSep_two (fun t : Fin 6 × Fin 2 × Fin 2 => ((t.2.2, t.1.castSucc, t.2.1) : Fin 2 × Fin 7 × Fin 2))
    (fun t : Fin 2 × Fin 2 => ((t.2, 6, t.1) : Fin 2 × Fin 7 × Fin 2)) (by decide +kernel) Φ

theorem univ_ordS (Φ : Fin 6 × Fin 2 × Fin 2 → sProp 𝕄) : bigSep Finset.univ Φ = bigSepL ordS Φ :=
  bigSep_univ_eq_bigSepL ordS (by decide +kernel) (by decide +kernel) Φ
theorem univ_ord4 (Φ : Fin 2 × Fin 2 → sProp 𝕄) : bigSep Finset.univ Φ = bigSepL ord4 Φ :=
  bigSep_univ_eq_bigSepL ord4 (by decide +kernel) (by decide +kernel) Φ
theorem univ_six (Φ : Fin 6 → sProp 𝕄) : bigSep Finset.univ Φ = bigSepL [0, 1, 2, 3, 4, 5] Φ :=
  bigSep_univ_eq_bigSepL [0, 1, 2, 3, 4, 5] (by decide +kernel) (by decide +kernel) Φ
theorem univ_ordK (Φ : Ck → sProp 𝕄) : bigSep Finset.univ Φ = bigSepL ordK Φ :=
  bigSep_univ_eq_bigSepL ordK (by ext k; simp [ordK_mem k]) ordK_nodup Φ

/-- The landings in the order they are waited for. -/
def recvL : List Ck := ordS.map (fun i => .A i.2.2 i.1.castSucc i.2.1) ++ (midV ++ (ordS.map (fun i => .C i.2.2 i.1.castSucc i.2.1)
  ++ ord4.map fun i => .C i.2 6 i.1))
theorem recvL_mem : ∀ k, k ∈ recvL := by decide +kernel
theorem recvL_nodup : recvL.Nodup := by decide +kernel
theorem univ_recvL (Φ : Ck → sProp 𝕄) : bigSep Finset.univ Φ
    = iprop((bigSepL ordS fun i => Φ (.A i.2.2 i.1.castSucc i.2.1)) ∗ bigSepL midV Φ ∗ (bigSepL ordS fun i => Φ (.C i.2.2 i.1.castSucc i.2.1))
      ∗ (bigSepL ord4 fun i => Φ (.C i.2 6 i.1))) := by
  rw [bigSep_univ_eq_bigSepL recvL (by ext k; simp [recvL_mem k]) recvL_nodup Φ]
  unfold recvL
  rw [bigSepL_append, bigSepL_append, bigSepL_append, bigSepL_map, bigSepL_map, bigSepL_map]
/-- The copies in the order they start. -/
theorem ordK_sent (Φ : Ck → sProp 𝕄) : bigSepL ordK Φ
    = iprop((bigSepL [0, 1] fun j => iprop(Φ (.A 0 0 j) ∗ Φ (.A 1 0 j))) ∗ (bigSepL ordS fun i => Φ (accK i)) ∗ bigSepL midK Φ
      ∗ (bigSepL ordS fun i => Φ (gatK i))) := by
  rw [ordK_eq, bigSepL_append, bigSepL_append, bigSepL_append, bigSepL_map, bigSepL_map]
  congr 1
  show iprop(Φ (.A 0 0 0) ∗ Φ (.A 1 0 0) ∗ Φ (.A 0 0 1) ∗ Φ (.A 1 0 1))
    = iprop((Φ (.A 0 0 0) ∗ Φ (.A 1 0 0)) ∗ Φ (.A 0 0 1) ∗ Φ (.A 1 0 1))
  exact (equiv_iff.mp ⟨Idealize.SL.BI.sep_assoc, Idealize.SL.BI.sep_assoc'⟩).symm

/-! ## Opening the scratch buffers -/

/-- The scratch buffers. -/
def scr (c : Dev nD) : sProp 𝕄 :=
  iprop((own? (F := F) c (relB 0) fullShare ∗ own? (F := F) c (relB 1) fullShare)
    ∗ (own? (F := F) c (aB 0) fullShare ∗ own? (F := F) c (aB 1) fullShare)
    ∗ (own? (F := F) c (cB 0) fullShare ∗ own? (F := F) c (cB 1) fullShare)
    ∗ (own? (F := F) c (ownB 0) fullShare ∗ own? (F := F) c (ownB 1) fullShare)
    ∗ bigSepL [0, 1, 2, 3, 4, 5] (fun i => own? (F := F) c (zSrc i) fullShare)
    ∗ bigSepL [0, 1, 2, 3, 4, 5] (fun i => own? (F := F) c (zDst i) fullShare))

/-- The gather slots nothing uses. -/
def idle (c : Dev nD) : sProp 𝕄 := bigSep Finset.univ fun t : Fin 2 × Fin 2 => own? (F := F) c (cQ t.2 0 t.1 c) fullShare

theorem scr_open (c : Dev nD) : scr (F := F) c
    ⊢ iprop((own? c (relB 0) fullShare ∗ own? c (relB 1) fullShare)
      ∗ bigSepL [0, 1] (fun j => iprop(own? (F := F) c (aSlot 0 0 j) fullShare ∗ own? c (aSlot 1 0 j) fullShare))
      ∗ (own? c (ownB 0) fullShare ∗ own? c (ownB 1) fullShare)
      ∗ bigSepL [0, 1, 2, 3, 4, 5] (fun i => own? (F := F) c (zSrc i) fullShare)
      ∗ idle c ∗ bigSep Finset.univ fun k => own? (F := F) c (dst k c) fullShare) := by
  unfold scr idle
  rw [bigSep_ck, univ_six]
  have hC : (fun t : Fin 2 × Fin 7 × Fin 2 => own? (F := F) c (dst (.C t.1 t.2.1 t.2.2) c) fullShare)
      = fun t => own? (F := F) c (cQ t.1 t.2.1.succ t.2.2 c) fullShare := by
    funext t; rw [dst_cQ]
  rw [hC]
  iintro ⟨Hr, Ha, Hc, Ho, Hs, Hd⟩
  ihave Ha := ((open_a c).trans (Entails.of_eq ((slots_succ _).trans (congrArg _ (univ_ord4 _))))) $$ Ha
  ihave Hc := ((open_c c).trans (Entails.of_eq (slots_succ _))) $$ Hc
  icases Ha with ⟨Ha, Ha0⟩
  icases Hc with ⟨Hc, Hc0⟩
  isplitl [Hr]; · iexact Hr
  isplitl [Ha0]
  · unfold ord4
    simp only [bigSepL_cc, bigSepL_singleton]
    icases Ha0 with ⟨H0, H1, H2, H3⟩
    isplitl [H0 H1]
    · isplitl [H0]; · iexact H0
      iexact H1
    · isplitl [H2]; · iexact H2
      iexact H3
  isplitl [Ho]; · iexact Ho
  isplitl [Hs]; · iexact Hs
  isplitl [Hc0]; · iexact Hc0
  isplitl [Ha]; · iexact Ha
  isplitl [Hd]; · iexact Hd
  iexact Hc

/-! ## The landing places, by the neighbour that writes them -/

theorem place_land (k : Ck) (e : Fin 4) (h : dirOf k = e) (c : Dev nD) :
    own? (F := F) c (dst k c) fullShare = land (F := F) k (nb (opp e) c) := by
  subst h
  unfold land
  have h1 : tgt k (nb (opp (dirOf k)) c) = c := tgt_frm k c
  have h2 := dst_tgt k (nb (opp (dirOf k)) c)
  rw [h1] at h2
  rw [h1, h2]
theorem places (c : Dev nD) : (bigSep Finset.univ fun k => own? (F := F) c (dst k c) fullShare)
    = iprop(barPay (nb 1 c) 0 ∗ barPay (nb 0 c) 1 ∗ barPay (nb 2 c) 2 ∗ barPay (F := F) (nb 3 c) 3) := by
  have hi : (Finset.univ : Finset Ck).image dirOf = Finset.univ := by decide
  rw [bigSep_fiberwise (Finset.univ : Finset Ck) dirOf, hi,
    bigSep_univ_eq_bigSepL [0, 1, 2, 3] (by decide) (by decide)]
  simp only [bigSepL_cc, bigSepL_singleton]
  have hp (e : Fin 4) : (bigSep (Finset.univ.filter fun k => dirOf k = e) fun k => own? (F := F) c (dst k c) fullShare)
      = barPay (nb (opp e) c) e := bigSep_congr fun k hk => place_land k e (Finset.mem_filter.mp hk).2 c
  rw [hp, hp, hp, hp]; rfl

end Pieces

end Cert.KernelIdeal.Body

end
-- ==== Proof.Body.lean ====
/- The body run once, at any device. -/
module

public import proofs.«01_k».proof.Proof.Pieces

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Run
variable (X : Dev nD → Vec F S2048x64 .bf16) (W : Dev nD → Vec F S64x2048 .bf16)

/-! ## Closing the scratch buffers -/

theorem join_gather (c : Dev nD) :
    iprop((bigSep Finset.univ fun t : Fin 6 × Fin 2 × Fin 2 => own? (F := F) c (dst (.C t.2.2 t.1.castSucc t.2.1) c) fullShare.left)
      ∗ (bigSep Finset.univ fun t : Fin 6 × Fin 2 × Fin 2 => own? (F := F) c (dst (.C t.2.2 t.1.castSucc t.2.1) c) fullShare.right)
      ∗ (bigSep Finset.univ fun t : Fin 2 × Fin 2 => own? (F := F) c (dst (.C t.2 6 t.1) c) fullShare) ∗ idle c)
    ⊢ iprop(own? c (cB 0) fullShare ∗ own? c (cB 1) fullShare) := by
  have hj : iprop((bigSep Finset.univ fun t : Fin 6 × Fin 2 × Fin 2 => own? (F := F) c (dst (.C t.2.2 t.1.castSucc t.2.1) c) fullShare.left)
      ∗ (bigSep Finset.univ fun t : Fin 6 × Fin 2 × Fin 2 => own? (F := F) c (dst (.C t.2.2 t.1.castSucc t.2.1) c) fullShare.right))
      ⊢ bigSep Finset.univ fun t : Fin 6 × Fin 2 × Fin 2 => own? (F := F) c (dst (.C t.2.2 t.1.castSucc t.2.1) c) fullShare := by
    rw [← bigSep_sep']
    exact bigSep_mono fun t _ => own_join_halves c _ _
  have hC : (fun t : Fin 2 × Fin 7 × Fin 2 => own? (F := F) c (dst (.C t.1 t.2.1 t.2.2) c) fullShare)
      = fun t => own? (F := F) c (cQ t.1 t.2.1.succ t.2.2 c) fullShare := by
    funext t; rw [dst_cQ]
  have hh := Entails.of_eq (hops_castSucc (fun t : Fin 2 × Fin 7 × Fin 2 => own? (F := F) c (dst (.C t.1 t.2.1 t.2.2) c) fullShare)).symm
  rw [hC] at hh
  have hs := (Entails.of_eq (slots_succ (fun t : Tl => own? (F := F) c (cQ t.1 t.2.1 t.2.2 c) fullShare)).symm).trans (close_c c)
  unfold idle
  iintro ⟨Hl, Hr, H6, Hi⟩
  ihave H := hj $$ [Hl Hr]
  · isplitl [Hl]; · iexact Hl
    iexact Hr
  ihave H := hh $$ [H H6]
  · isplitl [H]; · iexact H
    iexact H6
  iapply hs
  isplitl [H]; · iexact H
  iexact Hi

theorem scr_close (c : Dev nD) :
    iprop((own? (F := F) c (relB 0) fullShare ∗ own? c (relB 1) fullShare) ∗ midKeep c
      ∗ (bigSepL ordS fun i => own? c (dst (.C i.2.2 i.1.castSucc i.2.1) c) fullShare.right)
      ∗ (bigSepL ord4 fun i => own? c (dst (.C i.2 6 i.1) c) fullShare) ∗ idle c
      ∗ bigSep Finset.univ fun k => own? (F := F) c (src k c) (shr k))
    ⊢ scr c := by
  unfold scr midKeep
  rw [bigSep_ck, univ_six, hops_succ (F := F) (fun t => own? c (src (.C t.1 t.2.1 t.2.2) c) (shr (.C t.1 t.2.1 t.2.2))), univ_ord4, ← univ_ordS]
  iintro ⟨Hrel, ⟨Ho, ⟨D0, D1, D2, D3, D4, D5⟩, ⟨E4, E5⟩, ⟨K0, K1, K2, K3⟩⟩, Hg, H6, Hi, Ha, Hz, Hc, H0⟩
  have ha := (Entails.of_eq ((slots_castSucc (fun t : Tl => own? (F := F) c (aSlot t.1 t.2.1 t.2.2) fullShare)).trans
    (congrArg _ (univ_ord4 _))).symm).trans (close_a c)
  have hg := join_gather (F := F) c
  rw [univ_ord4] at hg
  unfold ord4 at ha ⊢
  simp only [bigSepL_cc, bigSepL_singleton] at ha ⊢
  icases Hz with ⟨Z0, Z1, Z2, Z3, Z4, Z5⟩
  icases H0 with ⟨C0, C1, C2, C3⟩
  isplitl [Hrel]; · iexact Hrel
  isplitl [Ha K0 K1 K2 K3]
  · iapply ha
    isplitl [Ha]; · iexact Ha
    isplitl [K0]; · iexact K0
    isplitl [K1]; · iexact K1
    isplitl [K2]; · iexact K2
    iexact K3
  isplitl [Hc Hg H6 Hi]
  · iapply hg
    isplitl [Hc]; · iexact Hc
    isplitl [Hg]; · iexact Hg
    isplitl [H6]
    · unfold ord4; simp only [bigSepL_cc, bigSepL_singleton]; iexact H6
    iexact Hi
  isplitl [Ho]; · iexact Ho
  isplitl [Z0 Z1 Z2 Z3 Z4 Z5 E4 E5 C0 C1]
  · isplitl [Z0]; · iexact Z0
    isplitl [Z1]; · iexact Z1
    isplitl [Z2]; · iexact Z2
    isplitl [Z3]; · iexact Z3
    isplitl [Z4 E4 C0]
    · iapply (own_join_halves c (zSrc 4) fullShare)
      isplitl [Z4]; · iexact Z4
      iapply (own_join_halves c (zSrc 4) fullShare.right)
      isplitl [C0]; · iexact C0
      iexact E4
    · iapply (own_join_halves c (zSrc 5) fullShare)
      isplitl [Z5]; · iexact Z5
      iapply (own_join_halves c (zSrc 5) fullShare.right)
      isplitl [C1]; · iexact C1
      iexact E5
  isplitl [D0]; · iexact D0
  isplitl [D1]; · iexact D1
  isplitl [D2]; · iexact D2
  isplitl [D3]; · iexact D3
  isplitl [D4 C2]
  · iapply (own_join_halves c (zDst 4) fullShare)
    isplitl [C2]; · iexact C2
    iexact D4
  · iapply (own_join_halves c (zDst 5) fullShare)
    isplitl [C3]; · iexact C3
    iexact D5

/-! ## The body -/

/-- The barrier's position, credit and tokens. -/
def barToks (c : Dev nD) : sProp 𝕄 :=
  iprop(atPos ER (barCell c) 0 ∅ 0 ∗ cred (tallyAt (barCell c) () 4)
    ∗ dutyTok ER (barCell (nb 1 c)) 0 0 ∗ dutyTok ER (barCell (nb 0 c)) 0 1
    ∗ dutyTok ER (barCell (nb 2 c)) 0 2 ∗ dutyTok ER (barCell (nb 3 c)) 0 3)
/-- A copy's position and tokens, on the sender. -/
def ckToks (c : Dev nD) (k : Ck) : sProp 𝕄 :=
  iprop(atPos ER (sCell k c) 0 ∅ 0 ∗ dutyTok ER (sCell k c) 0 0 ∗ dutyTok ER (rCell k (tgt k c)) 0 0)

/-- What the body starts from, -/
def bodyIn (c : Dev nD) : sProp 𝕄 :=
  iprop(own c xM fullShare (X c) ∗ own c wM fullShare (W c) ∗ own? (F := F) c oM fullShare
    ∗ (∃ Wt, owes (thr c) (O₀ c) Wt) ∗ barToks c ∗ (bigSep Finset.univ fun k => ckToks c k)
    ∗ (bigSep Finset.univ fun k => recvRes c k) ∗ scr c)
/-- and what it ends with. -/
def bodyOut (c : Dev nD) : sProp 𝕄 :=
  iprop(own c xM fullShare (X c) ∗ own c wM fullShare (W c) ∗ own c oM fullShare (vOut X W c)
    ∗ Owe c [] ∗ zer c none ∗ (bigSep Finset.univ fun k => zer c (some (false, k)))
    ∗ (bigSep Finset.univ fun k => zer c (some (true, k))) ∗ scr c)

theorem mid_tail : ∀ k ∈ ordS.map gatK, 14 ≤ lev k := by decide +kernel
theorem acc_tail : ∀ k ∈ midK ++ ordS.map gatK, 8 ≤ lev k := by decide +kernel
theorem allT : ∀ t : Tl, t ∈ midT ++ (ordS.map gatT ++ ord4.map lastT) := by decide +kernel

theorem sendRes_intro (c : Dev nD) (k : Ck) : iprop(ckToks c k ∗ land (F := F) k c) ⊢ sendRes c k := by
  unfold ckToks sendRes
  iintro ⟨⟨H1, H2, H3⟩, H4⟩
  isplitl [H1]; · iexact H1
  isplitl [H2]; · iexact H2
  isplitl [H3]; · iexact H3
  iexact H4
theorem Pend_intro (c : Dev nD) : iprop(Owe (F := F) c ordK ∗ bigSepL ordK (sendRes (F := F) c))
    ⊢ Pend c (([0, 1] : List (Fin 2)).flatMap iniK ++ (ordS.map accK ++ (midK ++ ordS.map gatK))) := by
  rw [← ordK_eq]; unfold Pend; exact .rfl
theorem Pend_elim (c : Dev nD) : Pend (F := F) c [] ⊢ Owe c [] := by
  unfold Pend
  iintro ⟨H, -⟩
  iexact H
theorem relOk_any (c : Dev nD) (d : Fin 2) (D : Fin 8 → Prop) : relOk X W c d D ⊢ own? c (relB d) fullShare := by
  unfold relOk
  iintro ⟨%Y, -, H⟩
  iexists Y; iexact H
theorem srcs_any (c : Dev nD) : (bigSepL ordK fun i => own c (src i c) (shr i) (val X W i c))
    ⊢ bigSep Finset.univ fun k => own? (F := F) c (src k c) (shr k) := by
  rw [← univ_ordK]
  exact bigSep_mono fun k _ => own_any c _ _ _
theorem bigSepL_sep {ι : Type} (Φ Ψ : ι → sProp 𝕄) : ∀ l : List ι,
    bigSepL l (fun i => iprop(Φ i ∗ Ψ i)) ⊢ iprop(bigSepL l Φ ∗ bigSepL l Ψ)
  | [] => by
    iintro -
    isplitr <;> iempintro
  | i :: l => by
    rw [bigSepL_cons', bigSepL_cons', bigSepL_cons']
    iintro ⟨⟨H1, H2⟩, H⟩
    ihave H := (bigSepL_sep Φ Ψ l) $$ H
    icases H with ⟨H3, H4⟩
    isplitl [H1 H3]
    · isplitl [H1]; · iexact H1
      iexact H3
    · isplitl [H2]; · iexact H2
      iexact H4

theorem sendRes_of (c : Dev nD) :
    iprop((bigSep Finset.univ fun k => ckToks c k) ∗ (bigSep Finset.univ fun k => land (F := F) k c))
      ⊢ bigSepL ordK (sendRes (F := F) c) := by
  rw [← univ_ordK, ← bigSep_sep']
  refine bigSep_mono fun k _ => ?_
  show _ ⊢ sendRes c k
  exact sendRes_intro c k

theorem run_body (c : Dev nD) (Q : PUnit → sProp 𝕄) :
    iprop(recs X W ∗ bodyIn X W c) ⊢ iprop((bodyOut X W c -∗ Q ⟨⟩) -∗ run c (bodyD c) Q) := by
  unfold bodyIn bodyOut bodyD barToks
  rw [univ_recvL (F := F) (fun k => recvRes c k), univ_recvL (F := F) (fun k => zer c (some (true, k)))]
  have hpl := (Entails.of_eq (places (F := F) c))
  have hin := (Entails.of_eq (ordK_sent (F := F) (fun k => sent c k)).symm)
  iintro ⟨#Hr, Hx, Hw, Ho, HO, ⟨Hb1, Hb2, Ht1, Ht0, Ht2, Ht3⟩, Hck, ⟨Va, Vm, Vc, Vl⟩, Hscr⟩ Hk
  ihave Hscr := (scr_open c) $$ Hscr
  icases Hscr with ⟨⟨Hrel0, Hrel1⟩, Ha0, Hown, Hzs, Hidle, Hpl⟩
  ihave Hpl := hpl $$ Hpl
  icases Hpl with ⟨P1, P0, P2, P3⟩
  iapply (run_barP X W c) $$ [HO Hb1 Hb2 Ht1 Ht0 Ht2 Ht3 P1 P0 P2 P3]
  · isplitr; · iexact Hr
    isplitl [HO]; · iexact HO
    unfold barRes
    isplitl [Hb1]; · iexact Hb1
    isplitl [Hb2]; · iexact Hb2
    isplitl [Ht1 P1]
    · isplitl [Ht1]; · iexact Ht1
      iexact P1
    isplitl [Ht0 P0]
    · isplitl [Ht0]; · iexact Ht0
      iexact P0
    isplitl [Ht2 P2]
    · isplitl [Ht2]; · iexact Ht2
      iexact P2
    · isplitl [Ht3]; · iexact Ht3
      iexact P3
  iintro ⟨HO, Hland, Zb⟩
  ihave HP := (sendRes_of c) $$ [Hck Hland]
  · isplitl [Hck]; · iexact Hck
    iexact Hland
  iapply (run_ld c) $$ Hw
  have hw : (fun i => W c ((Rect.unit (s := S64x2048) ![0, 0] S64x2048.size inb_S64x2048_S64x2048_0_0).emb i)) = W c := by
    have hz : ∀ a, (![0, 0] : Fin 2 → Nat) a = 0 := by decide
    funext i
    congr 1
    funext a
    apply Fin.ext
    show (![0, 0] : Fin 2 → Nat) a + 1 * (i a).val = (i a).val
    rw [hz]; omega
  rw [hw]
  iintro Hw
  ihave HP := (Pend_intro c) $$ [HO HP]
  · isplitl [HO]; · iexact HO
    iexact HP
  iapply (phase_init X W c (ordS.map accK ++ (midK ++ ordS.map gatK))) $$ [Hx HP Ha0]
  · isplitr; · iexact Hr
    isplitl [Hx]; · iexact Hx
    isplitl [HP]; · iexact HP
    iexact Ha0
  iintro ⟨Hx, HP, S0⟩
  iapply (phase_rel X W c) $$ [Hx Hrel0 Hrel1]
  · isplitl [Hx]; · iexact Hx
    isplitl [Hrel0]; · iexact Hrel0
    iexact Hrel1
  iintro ⟨Hx, Hrel⟩
  iapply (phase_acc X W c (midK ++ ordS.map gatK) acc_tail) $$ [Hrel HP Va]
  · isplitr; · iexact Hr
    isplitl [Hrel]; · iexact Hrel
    isplitl [HP]; · iexact HP
    iexact Va
  iintro ⟨Hrel, HP, S1⟩
  ihave S1 := (bigSepL_sep _ _ ordS) $$ S1
  icases S1 with ⟨Za, S1⟩
  iapply (phase_mid X W c (ordS.map gatK) mid_tail (ordS.map gatT ++ ord4.map lastT)) $$ [Hrel Hown Hzs Ho HP Vm]
  · isplitr; · iexact Hr
    isplitl [Hrel]; · iexact Hrel
    isplitl [Hown]; · iexact Hown
    isplitl [Hzs]; · iexact Hzs
    isplitl [Ho]
    · icases Ho with ⟨%Y, Ho⟩
      unfold outRem
      iexists Y
      isplitr
      · ipureintro; exact fun t ht => absurd (allT t) ht
      · iexact Ho
    isplitl [HP]; · iexact HP
    iexact Vm
  iintro ⟨Hrel, Hkeep, Ho, HP, Zm, S2⟩
  iapply (phase_gat X W c (ord4.map lastT)) $$ [Ho HP Vc]
  · isplitr; · iexact Hr
    isplitl [Ho]; · iexact Ho
    isplitl [HP]; · iexact HP
    iexact Vc
  iintro ⟨Ho, HP, S3⟩
  ihave S3 := (bigSepL_sep _ _ ordS) $$ S3
  icases S3 with ⟨Zc, S3⟩
  ihave S3 := (bigSepL_sep _ _ ordS) $$ S3
  icases S3 with ⟨S3, G3⟩
  iapply (phase_gatLast X W c) $$ [Ho HP Vl]
  · isplitr; · iexact Hr
    isplitl [Ho]; · iexact Ho
    isplitl [HP]; · iexact HP
    iexact Vl
  iintro ⟨Ho, HP, S4⟩
  ihave S4 := (bigSepL_sep _ _ ord4) $$ S4
  icases S4 with ⟨Zl, G4⟩
  ihave HO := (Pend_elim c) $$ HP
  ihave HS := hin $$ [S0 S1 S2 S3]
  · isplitl [S0]; · iexact S0
    isplitl [S1]; · iexact S1
    isplitl [S2]; · iexact S2
    iexact S3
  iapply (phase_wait X W c) $$ [HO HS]
  · isplitr; · iexact Hr
    isplitl [HO]; · iexact HO
    iexact HS
  iintro ⟨HO, S5⟩
  ihave S5 := (bigSepL_sep _ _ ordK) $$ S5
  icases S5 with ⟨Hsrc, Zs⟩
  ihave Hsrc := (srcs_any X W c) $$ Hsrc
  ihave Hscr := (scr_close c) $$ [Hrel Hkeep G3 G4 Hidle Hsrc]
  · isplitl [Hrel]
    · icases Hrel with ⟨H0, H1⟩
      isplitl [H0]
      · iapply (relOk_any X W c 0) $$ H0
      · iapply (relOk_any X W c 1) $$ H1
    isplitl [Hkeep]; · iexact Hkeep
    isplitl [G3]; · iexact G3
    isplitl [G4]; · iexact G4
    isplitl [Hidle]; · iexact Hidle
    iexact Hsrc
  rw [Prog.pure_eq_ret, run, wp_ret]
  imodintro
  iapply Hk
  isplitl [Hx]; · iexact Hx
  isplitl [Hw]; · iexact Hw
  isplitl [Ho]; · iapply (outRem_nil X W c) $$ Ho
  isplitl [HO]; · iexact HO
  isplitl [Zb]; · iexact Zb
  isplitl [Zs]; · rw [univ_ordK]; iexact Zs
  isplitl [Za Zm Zc Zl]
  · isplitl [Za]; · iexact Za
    isplitl [Zm]; · iexact Zm
    isplitl [Zc]; · iexact Zc
    iexact Zl
  iexact Hscr

end Run

end Cert.KernelIdeal.Body

end
-- ==== Proof.Ghost.lean ====
/- The cells, tokens, counters and buffers the launch deals, regrouped by device. -/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices' cells, tokens and counters, regrouped -/

/-- A device's cells: the barrier's, the copies' send cells, their receive cells. -/
theorem bigSep_cl (Φ : Cl → sProp 𝕄) : bigSep Finset.univ Φ
    = iprop(Φ none ∗ (bigSep Finset.univ fun k : Ck => Φ (some (false, k))) ∗ (bigSep Finset.univ fun k : Ck => Φ (some (true, k)))) := by
  rw [bigSep_two (fun _ : Unit => (none : Cl)) some ⟨by
      rintro (_ | _) (_ | _) h <;> cases h <;> rfl, by
      rintro (_ | x)
      · exact ⟨.inl (), rfl⟩
      · exact ⟨.inr x, rfl⟩⟩ Φ,
    bigSep_two (fun k : Ck => (false, k)) (fun k : Ck => (true, k)) ⟨by
      rintro (_ | _) (_ | _) h <;> cases h <;> rfl, by
      rintro ⟨_ | _, k⟩
      · exact ⟨.inl k, rfl⟩
      · exact ⟨.inr k, rfl⟩⟩ (fun x => Φ (some x)),
    bigSep_univ_eq_bigSepL [()] (by decide) (by decide), bigSepL_singleton]

theorem kcell_inj : Function.Injective fun x : Dev nD × Cl => kcell x.1 x.2 := by
  rintro ⟨c, x⟩ ⟨c', x'⟩ h
  have hc : c = c' := congrArg (fun g : GSem nD τ sig => g.1.1) h
  have hx : x = x' := csem_inj (congrArg Prod.snd h)
  rw [hc, hx]
def allCells : Finset (GSem nD τ sig) := Finset.univ.map ⟨_, kcell_inj⟩

/-- The duties of a device's cells: the barrier's four, one of each other cell. -/
abbrev Duty := Fin 4 ⊕ Bool × Ck
def tokOf (x : Dev nD × Duty) : GSem nD τ sig × ℕ × Fin 4 := match x.2 with
  | .inl e => (barCell x.1, 0, e)
  | .inr y => (kcell x.1 (some y), 0, 0)
theorem tokOf_inj : Function.Injective tokOf := by
  rintro ⟨c, e | y⟩ ⟨c', e' | y'⟩ h
  · have hc : c = c' := congrArg (fun x : GSem nD τ sig × ℕ × Fin 4 => x.1.1.1) h
    have he : e = e' := congrArg (fun x : GSem nD τ sig × ℕ × Fin 4 => x.2.2) h
    rw [hc, he]
  · exact absurd (csem_inj (show csem none = csem (some y') from congrArg (fun x : GSem nD τ sig × ℕ × Fin 4 => x.1.2) h)) (fun h => by cases h)
  · exact absurd (csem_inj (show csem (some y) = csem none from congrArg (fun x : GSem nD τ sig × ℕ × Fin 4 => x.1.2) h)) (fun h => by cases h)
  · have hc : c = c' := congrArg (fun x : GSem nD τ sig × ℕ × Fin 4 => x.1.1.1) h
    have hy : some y = some y' := csem_inj (congrArg (fun x : GSem nD τ sig × ℕ × Fin 4 => x.1.2) h)
    rw [hc, Option.some.inj hy]
def allToks : Finset (GSem nD τ sig × ℕ × Fin 4) := Finset.univ.map ⟨_, tokOf_inj⟩

/-- The tokens of a device's own cells, -/
def mint (c : Dev nD) : sProp 𝕄 :=
  iprop((dutyTok ER (barCell c) 0 0 ∗ dutyTok ER (barCell c) 0 1 ∗ dutyTok ER (barCell c) 0 2 ∗ dutyTok ER (barCell c) 0 3)
    ∗ (bigSep Finset.univ fun k : Ck => dutyTok ER (sCell k c) 0 0) ∗ (bigSep Finset.univ fun k : Ck => dutyTok ER (rCell k c) 0 0))
/-- and those of the duties it pays. -/
def pays (c : Dev nD) : sProp 𝕄 :=
  iprop((dutyTok ER (barCell (nb 1 c)) 0 0 ∗ dutyTok ER (barCell (nb 0 c)) 0 1 ∗ dutyTok ER (barCell (nb 2 c)) 0 2 ∗ dutyTok ER (barCell (nb 3 c)) 0 3)
    ∗ (bigSep Finset.univ fun k : Ck => dutyTok ER (sCell k c) 0 0)
    ∗ (bigSep Finset.univ fun k : Ck => dutyTok ER (rCell k (tgt k c)) 0 0))

theorem mint_eq : bigSep allToks (fun x => (dutyTok ER x.1 x.2.1 x.2.2 : sProp 𝕄)) = bigSep Finset.univ fun c => mint c := by
  unfold allToks
  rw [bigSep_map, bigSep_univ_prod]
  refine bigSep_congr fun c _ => ?_
  unfold mint
  rw [bigSep_univ_sum, bigSep_univ_eq_bigSepL [(0 : Fin 4), 1, 2, 3] (by decide) (by decide),
    bigSep_two (fun k : Ck => (false, k)) (fun k : Ck => (true, k)) ⟨by
      rintro (_ | _) (_ | _) h <;> cases h <;> rfl, by
      rintro ⟨_ | _, k⟩
      · exact ⟨.inl k, rfl⟩
      · exact ⟨.inr k, rfl⟩⟩]
  rfl

/-- Moving one step in a direction, as a permutation of the devices. -/
def nbE (e : Fin 4) : Dev nD ≃ Dev nD := ⟨nb e, nb (opp e), nb_opp e, nb_opp' e⟩

/-- Each copy from its sender to its receiver. -/
def tgtE : Dev nD × Ck ≃ Dev nD × Ck where
  toFun x := (tgt x.2 x.1, x.2)
  invFun x := (frm x.2 x.1, x.2)
  left_inv x := Prod.ext (frm_tgt _ _) rfl
  right_inv x := Prod.ext (tgt_frm _ _) rfl

theorem pays_eq : (bigSep Finset.univ fun c => (mint c : sProp 𝕄)) = bigSep Finset.univ fun c => pays c := by
  unfold mint pays
  simp only [bigSep_sep']
  have hr : (bigSep Finset.univ fun c : Dev nD => bigSep Finset.univ fun k : Ck => (dutyTok ER (rCell k c) 0 0 : sProp 𝕄))
      = bigSep Finset.univ fun c : Dev nD => bigSep Finset.univ fun k : Ck => dutyTok ER (rCell k (tgt k c)) 0 0 := by
    rw [← bigSep_univ_prod (fun x : Dev nD × Ck => (dutyTok ER (rCell x.2 x.1) 0 0 : sProp 𝕄)),
      ← bigSep_univ_prod (fun x : Dev nD × Ck => (dutyTok ER (rCell x.2 (tgt x.2 x.1)) 0 0 : sProp 𝕄)), bigSep_univ_equiv tgtE]
    exact bigSep_congr fun x _ => rfl
  have hb (e d : Fin 4) : (bigSep Finset.univ fun c : Dev nD => (dutyTok ER (barCell c) 0 d : sProp 𝕄))
      = bigSep Finset.univ fun c : Dev nD => dutyTok ER (barCell (nb e c)) 0 d := bigSep_univ_equiv (nbE e) _
  rw [hr, hb 1 0, hb 0 1, hb 2 2, hb 3 3]

/-- The kernel's semaphores no copy uses. -/
def spares (c : Dev nD) : sProp 𝕄 := bigSepL [62, 63, 70, 71] fun i : Fin 128 => semVal (thr c, osem i) 0

def semIx : (Bool × Ck) ⊕ Fin 4 → Fin 128 := Sum.elim (fun y => if y.1 then rIx y.2 else sIx y.2) ![62, 63, 70, 71]
theorem semIx_inj : Function.Injective semIx := by
  have hsp : ∀ e : Fin 4, (![62, 63, 70, 71] : Fin 4 → Fin 128) e ∈ spare := by decide
  rintro (⟨_ | _, k⟩ | e) (⟨_ | _, k'⟩ | e') h
  · rw [sIx_inj (show sIx k = sIx k' from h)]
  · exact absurd h (sIx_ne_rIx _ _)
  · exact absurd ((show sIx k = _ from h) ▸ hsp e') (spare_ne k).1
  · exact absurd h.symm (sIx_ne_rIx _ _)
  · rw [rIx_inj (show rIx k = rIx k' from h)]
  · exact absurd ((show rIx k = _ from h) ▸ hsp e') (spare_ne k).2
  · exact absurd ((show _ = sIx k' from h) ▸ hsp e) (spare_ne k').1
  · exact absurd ((show _ = rIx k' from h) ▸ hsp e) (spare_ne k').2
  · revert e e'; decide
theorem semIx_surj : Function.Surjective semIx := fun i => by
  rcases ix_cover i with h | ⟨k, rfl⟩ | ⟨k, rfl⟩
  · obtain ⟨e, rfl⟩ := (by decide : ∀ i ∈ spare, ∃ e : Fin 4, (![62, 63, 70, 71] : Fin 4 → Fin 128) e = i) i h
    exact ⟨.inr e, rfl⟩
  · exact ⟨.inl (false, k), rfl⟩
  · exact ⟨.inl (true, k), rfl⟩

theorem ownSems_eq (c : Dev nD) :
    (Pipeline.ownSems0 (Ix := Unit) (Name := ℕ) (U := UU) (Lvl := ℕ) (Val := Elt F) (τ := τ) osem c : sProp 𝕄)
      = iprop((bigSep Finset.univ fun k => zer c (some (false, k))) ∗ (bigSep Finset.univ fun k => zer c (some (true, k))) ∗ spares c) := by
  unfold Pipeline.ownSems0
  rw [bigSep_univ_equiv (Equiv.ofBijective semIx ⟨semIx_inj, semIx_surj⟩), bigSep_univ_sum,
    bigSep_two (fun k : Ck => (false, k)) (fun k : Ck => (true, k)) ⟨by
      rintro (_ | _) (_ | _) h <;> cases h <;> rfl, by
      rintro ⟨_ | _, k⟩
      · exact ⟨.inl k, rfl⟩
      · exact ⟨.inr k, rfl⟩⟩,
    bigSep_univ_eq_bigSepL [(0 : Fin 4), 1, 2, 3] (by decide) (by decide)]
  have hs : ∀ k : Ck, (semVal (thr c, osem (semIx (.inl (false, k)))) 0 : sProp 𝕄) = zer c (some (false, k)) := fun k => by
    rw [zer, kcell, csem, sendS_eq]; rfl
  have hr : ∀ k : Ck, (semVal (thr c, osem (semIx (.inl (true, k)))) 0 : sProp 𝕄) = zer c (some (true, k)) := fun k => by
    rw [zer, kcell, csem, recvS_eq]; rfl
  have hs' := bigSep_congr (s := Finset.univ) fun (k : Ck) _ => hs k
  have hr' := bigSep_congr (s := Finset.univ) fun (k : Ck) _ => hr k
  refine (congrArg₂ _ (congrArg₂ _ hs' hr') rfl).trans ?_
  exact equiv_iff.mp ⟨Idealize.SL.BI.sep_assoc, Idealize.SL.BI.sep_assoc'⟩

/-- The barrier's semaphore is the only one outside the call. -/
theorem barSem_eq (c : Dev nD) : (unscopedSems0 c : sProp 𝕄) = zer c none := by
  unfold unscopedSems0
  rw [bigSep_eq_bigSepL_of_eq [SemLoc.reg barS.sem] (by decide) (by decide), bigSepL_singleton]
  rfl

/-! ## The scratch buffers at launch -/

theorem whole_any (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) :=
  congrArg (fun Φ : b.ty.Contents (Elt F) → sProp 𝕄 => iprop(∃ X, Φ X))
    (funext fun X => (owns_whole (c : Thread nD τ) b fullShare X).symm)

theorem scr_eq (c : Dev nD) :
    (Pipeline.scopedRest (Ix := Unit) (Name := ℕ) (U := UU) (Lvl := ℕ) (Val := Elt F) spec0 c : sProp 𝕄) ⊣⊢ scr c := by
  rw [scopedRest0_eq]
  simp only [whole_any]
  unfold scr
  simp only [bigSepL_cc, bigSepL_singleton]
  constructor
  · iintro ⟨H0, H1, H2, H3, H4, H5, H6, H7, H8, H9, H10, H11, H12, H13, H14, H15, H16, H17, H18, H19⟩
    isplitl [H0 H1]
    · isplitl [H0]; · iexact H0
      iexact H1
    isplitl [H2 H3]
    · isplitl [H2]; · iexact H2
      iexact H3
    isplitl [H4 H5]
    · isplitl [H4]; · iexact H4
      iexact H5
    isplitl [H6 H7]
    · isplitl [H6]; · iexact H6
      iexact H7
    isplitl [H8 H10 H12 H14 H16 H18]
    · isplitl [H8]; · iexact H8
      isplitl [H10]; · iexact H10
      isplitl [H12]; · iexact H12
      isplitl [H14]; · iexact H14
      isplitl [H16]; · iexact H16
      iexact H18
    · isplitl [H9]; · iexact H9
      isplitl [H11]; · iexact H11
      isplitl [H13]; · iexact H13
      isplitl [H15]; · iexact H15
      isplitl [H17]; · iexact H17
      iexact H19
  · iintro ⟨⟨H0, H1⟩, ⟨H2, H3⟩, ⟨H4, H5⟩, ⟨H6, H7⟩, ⟨H8, H10, H12, H14, H16, H18⟩, ⟨H9, H11, H13, H15, H17, H19⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-! ## The launch's ghost state -/

section Deal
variable (X : Dev nD → Vec F S2048x64 .bf16) (W : Dev nD → Vec F S64x2048 .bf16)

/-- What a device is dealt: its cells' states, its positions, its cells' tokens. -/
def dealt (c : Dev nD) : sProp 𝕄 :=
  iprop((bigSep Finset.univ fun x : Cl => roundState ER (Rd X W) (kcell c x) 0)
    ∗ (bigSep Finset.univ fun x : Cl => reached ER (kcell c x) 0)
    ∗ (bigSep Finset.univ fun x : Cl => atPos ER (kcell c x) 0 ∅ 0) ∗ mint c)

theorem deal : BI.own (ER (initOf allCells allToks)) ⊢ (|==> bigSep Finset.univ (dealt X W) : sProp 𝕄) := by
  have hX (Φ : GSem nD τ sig → sProp 𝕄) : bigSep allCells Φ = bigSep Finset.univ fun c : Dev nD => bigSep Finset.univ fun x : Cl => Φ (kcell c x) := by
    unfold allCells; rw [bigSep_map, bigSep_univ_prod]; rfl
  refine (Rounds.fund ER (Rd X W) allCells allToks).trans (BI.bupd_mono ?_)
  rw [hX, hX, hX, mint_eq]
  unfold dealt
  simp only [bigSep_sep']
  exact BI.Entails.refl _

/-- A device's part after the cells are set up: its positions, tokens, and spare counters. -/
def part (c : Dev nD) : sProp 𝕄 :=
  iprop((bigSep Finset.univ fun x : Cl => atPos ER (kcell c x) 0 ∅ 0) ∗ pays c ∗ spares c)
/-- The cells' records, whatever the levels. -/
def cellsAt (K : Dev nD × Cl → ℕ) : sProp 𝕄 :=
  iprop((bigSep Finset.univ fun x => cellInv ER (Rd X W) (K x) (kcell x.1 x.2))
    ∗ (bigSep Finset.univ fun x : Dev nD × Cl => reached ER (kcell x.1 x.2) 0))
instance cellsAt_persistent (K : Dev nD × Cl → ℕ) : BI.Persistent (cellsAt X W K) := by unfold cellsAt; infer_instance
/-- What a device holds from then on. -/
def hold (c : Dev nD) : sProp 𝕄 := iprop((∃ K, cellsAt X W K) ∗ part c)

theorem cells_open (c : Dev nD) :
    iprop((bigSep Finset.univ fun x : Cl => zer (F := F) c x) ∗ (bigSep Finset.univ fun x : Cl => roundState ER (Rd X W) (kcell c x) 0))
      ⊢ |={Set.univ}=> bigSep Finset.univ fun x : Cl => iprop(∃ κ : ℕ, cellInv ER (Rd X W) κ (kcell c x)) := by
  rw [← bigSep_sep']
  refine BIBase.Entails.trans (bigSep_mono fun x _ => ?_) (bigSep_fupd _ _)
  exact (Rounds.body_intro ER (Rd X W) (kcell c x)).trans inv_alloc

theorem dev_open (c : Dev nD) :
    iprop(Pipeline.ownSems0 (Ix := Unit) (Name := ℕ) (U := UU) (Lvl := ℕ) (Val := Elt F) (τ := τ) osem c ∗ unscopedSems0 c ∗ dealt X W c)
      ⊢ |={Set.univ}=> iprop((bigSep Finset.univ fun x : Cl => iprop(∃ κ : ℕ, cellInv ER (Rd X W) κ (kcell c x)))
          ∗ (bigSep Finset.univ fun x : Cl => reached ER (kcell c x) 0)
          ∗ (bigSep Finset.univ fun x : Cl => atPos ER (kcell c x) 0 ∅ 0) ∗ mint c ∗ spares c) := by
  rw [ownSems_eq, barSem_eq]
  unfold dealt
  iintro ⟨⟨Hs, Hr, Hsp⟩, Hb, Hst, Hre, Hat, Hm⟩
  imod (cells_open X W c) $$ [Hs Hr Hb Hst] with Hi
  · rw [bigSep_cl (fun x => zer (F := F) c x)]
    isplitl [Hs Hr Hb]
    · isplitl [Hb]; · iexact Hb
      isplitl [Hs]; · iexact Hs
      iexact Hr
    iexact Hst
  imodintro
  isplitl [Hi]; · iexact Hi
  isplitl [Hre]; · iexact Hre
  isplitl [Hat]; · iexact Hat
  isplitl [Hm]; · iexact Hm
  iexact Hsp

theorem hold_intro (K : Dev nD × Cl → ℕ) (c : Dev nD) : iprop(cellsAt X W K ∗ part c) ⊢ hold X W c := by
  unfold hold
  iintro ⟨H, Hp⟩
  isplitl [H]
  · iexists K; iexact H
  iexact Hp

theorem gather_devs :
    (bigSep Finset.univ fun c : Dev nD => iprop((bigSep Finset.univ fun x : Cl => iprop(∃ κ : ℕ, cellInv ER (Rd X W) κ (kcell c x)))
          ∗ (bigSep Finset.univ fun x : Cl => reached ER (kcell c x) 0)
          ∗ (bigSep Finset.univ fun x : Cl => atPos ER (kcell c x) 0 ∅ 0) ∗ mint c ∗ spares c) : sProp 𝕄)
      ⊢ bigSep Finset.univ (hold X W) := by
  have hp : (bigSep Finset.univ fun c => (part c : sProp 𝕄))
      = iprop((bigSep Finset.univ fun c : Dev nD => bigSep Finset.univ fun x : Cl => atPos ER (kcell c x) 0 ∅ 0)
          ∗ (bigSep Finset.univ fun c => pays c) ∗ bigSep Finset.univ fun c => spares c) := by
    unfold part; rw [bigSep_sep', bigSep_sep']
  rw [bigSep_sep', bigSep_sep', bigSep_sep', bigSep_sep', pays_eq,
    ← bigSep_univ_prod (fun x : Dev nD × Cl => iprop(∃ κ : ℕ, cellInv ER (Rd X W) κ (kcell x.1 x.2))),
    ← bigSep_univ_prod (fun x : Dev nD × Cl => (reached ER (kcell x.1 x.2) 0 : sProp 𝕄))]
  iintro ⟨HI, #HR, Hat, Htok, Hsp⟩
  ihave HK := (BI.bigSep_exists_pi Finset.univ (fun (x : Dev nD × Cl) (κ : ℕ) => (cellInv ER (Rd X W) κ (kcell x.1 x.2) : sProp 𝕄))) $$ HI
  icases HK with ⟨%K, #HI⟩
  iapply (bigSep_with_persistent (R := cellsAt X W K) fun c _ => hold_intro X W K c)
  isplitr
  · unfold cellsAt
    isplitl; · iexact HI
    iexact HR
  · rw [hp]
    isplitl [Hat]; · iexact Hat
    isplitl [Htok]; · iexact Htok
    iexact Hsp

/-- Every device's cells set up at once. -/
theorem setup : (bigSep Finset.univ fun c => iprop(Pipeline.ownSems0 (Ix := Unit) (Name := ℕ) (U := UU) (Lvl := ℕ) (Val := Elt F) (τ := τ) osem c
      ∗ unscopedSems0 c ∗ dealt X W c) : sProp 𝕄) ⊢ |={Set.univ}=> bigSep Finset.univ (hold X W) :=
  (BIBase.Entails.trans (bigSep_mono fun c _ => dev_open X W c) (bigSep_fupd _ _)).trans (BI.fupd_mono (gather_devs X W))

/-! ## The launch's credit -/

theorem cred_list (c : Dev nD) : ∀ l : List Ck,
    (Pipeline.launchCred (fun d => oweL d l) c : sProp 𝕄) ⊢ bigSepL l fun k => cred (tallyAt (rCell k c) () N)
  | [] => by
    unfold oweL
    rw [Pipeline.launchCred_zero]
    exact .rfl
  | k :: l => by
    unfold oweL
    rw [Pipeline.launchCred_add, bigSepL_cons']
    iintro ⟨H1, H2⟩
    ihave H1 := (cred_list c l) $$ H1
    ihave H2 := (Pipeline.launchCred_tallyAt (csem (some (true, k))) (tgt k) (frm k) (tgt_frm k) (frm_tgt k) () N c) $$ H2
    isplitl [H2]; · iexact H2
    iexact H1

theorem cred_bar (c : Dev nD) (e : Fin 4) :
    (Pipeline.launchCred (fun d => tallyAt (barCell (nb e d)) () 1) c : sProp 𝕄) ⊢ cred (tallyAt (barCell c) () 1) :=
  Pipeline.launchCred_tallyAt (csem none) (nb e) (nb (opp e)) (nb_opp' e) (nb_opp e) () 1 c

theorem creds (c : Dev nD) : (Pipeline.launchCred O₀ c : sProp 𝕄)
    ⊢ iprop(cred (tallyAt (barCell c) () 4) ∗ bigSep Finset.univ fun k => cred (tallyAt (rCell k c) () N)) := by
  have h4 : (tallyAt (barCell c) () 4 : CellTallies nD τ sig Unit)
      = tallyAt (barCell c) () 1 + tallyAt (barCell c) () 1 + tallyAt (barCell c) () 1 + tallyAt (barCell c) () 1 := by
    show tallyAt (barCell c) () (1 + 1 + 1 + 1) = _
    rw [tallyAt_add, tallyAt_add, tallyAt_add]
  show (Pipeline.launchCred (fun c => O₀ c) c : sProp 𝕄) ⊢ _
  unfold O₀
  rw [Pipeline.launchCred_add, Pipeline.launchCred_add, Pipeline.launchCred_add, Pipeline.launchCred_add, h4, univ_ordK]
  iintro ⟨⟨⟨⟨H, H3⟩, H2⟩, H0⟩, H1⟩
  ihave H := (cred_list c ordK) $$ H
  ihave H3 := (cred_bar c 3) $$ H3
  ihave H2 := (cred_bar c 2) $$ H2
  ihave H0 := (cred_bar c 0) $$ H0
  ihave H1 := (cred_bar c 1) $$ H1
  isplitr [H]
  · iapply (cred_add _ _).2
    isplitr [H1]
    · iapply (cred_add _ _).2
      isplitr [H0]
      · iapply (cred_add _ _).2
        isplitl [H3]; · iexact H3
        iexact H2
      iexact H0
    iexact H1
  iexact H

end Deal

end Cert.KernelIdeal.Body

end
-- ==== Proof.CleanEq.lean ====
module

public import proofs.«01_k».proof.Proof.Clean

@[expose] public section

set_option maxRecDepth 65536

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

set_option maxHeartbeats 2000000 in
theorem body_eq : bodyAt0 (F := F) t0_0 = clean := by rfl

end Cert.KernelIdeal.Body

end
-- ==== Proof.Run.lean ====
/- The launch: the body's obligation, and the run of the whole program. -/
module

public import proofs.«01_k».proof.Proof.Ghost
public import proofs.«01_k».proof.Proof.CleanEq
public import proofs.«01_k».proof.Proof.Gen.KernelIdeal.Frame
public import Idealize.ShloMosaic.Lib.Pipeline.CollectiveSegs

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section Launch
variable (m : (ℓ : Loc nD τ sig) → Buf (Elt F) ℓ) (ρ : Dev nD → PrngReg)

/-- The devices' columns of `x`, -/
def inX (c : Dev nD) : Vec F S2048x64 .bf16 := iblk m c 0 t0_0
/-- and rows of `w`. -/
def inW (c : Dev nD) : Vec F S64x2048 .bf16 := iblk m c 1 t0_0
/-- What every device computes. -/
def outV (c : Dev nD) : Vec F S2048x2048 .f32 := vOut (inX m) (inW m) c

/-! ## What the call keeps before and after the body -/

def before (c : Dev nD) : sProp 𝕄 :=
  iprop(recs (inX m) (inW m) ∗ barToks c ∗ (bigSep Finset.univ fun k => ckToks c k)
    ∗ (bigSep Finset.univ fun k => recvRes c k) ∗ spares c)
def Φ₀ (c : Dev nD) : sProp 𝕄 := iprop(before m c ∗ scr c)
def Φ₁ (c : Dev nD) : sProp 𝕄 :=
  iprop(zer (F := F) c none ∗ (bigSep Finset.univ fun k => zer (F := F) c (some (false, k)))
    ∗ (bigSep Finset.univ fun k => zer (F := F) c (some (true, k))) ∗ spares c ∗ scr c)

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inW m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_full (c : Dev nD) (w : Fin cfg0.W) : (dats m 0 c).share w = fullShare := by
  unfold Dat.share; split <;> rfl

/-! ## The body's obligation -/

def bodyPre (c : Dev nD) : sProp 𝕄 :=
  iprop(Φ₀ m c ∗ (dats m 0 c).owesAt () t0_0.castSucc
    ∗ (∃ d, own c xM fullShare ((dats m 0 c).before (0 : Fin 3) t0_0 d))
    ∗ (∃ d, own c wM fullShare ((dats m 0 c).before (1 : Fin 3) t0_0 d))
    ∗ (∃ d, own c oM fullShare ((dats m 0 c).before (2 : Fin 3) t0_0 d)))
def bodyPost (c : Dev nD) : sProp 𝕄 :=
  iprop(Φ₁ c ∗ (dats m 0 c).owesAt () t0_0.succ ∗ own c xM fullShare (inX m c) ∗ own c wM fullShare (inW m c)
    ∗ own c oM fullShare (outV m c))

theorem before_x (c : Dev nD) (d) : (dats m 0 c).before (0 : Fin 3) t0_0 d = inX m c := by
  unfold Dat.before; rw [if_pos (fetch0_0 t0_0)]; rfl
theorem before_w (c : Dev nD) (d) : (dats m 0 c).before (1 : Fin 3) t0_0 d = inW m c := by
  unfold Dat.before; rw [if_pos (fetch0_1 t0_0)]; rfl

theorem clean_run (c : Dev nD) (Q : PUnit → sProp 𝕄) : run c (bodyD c) Q ⊢ run c clean Q := by
  unfold clean
  rw [run_bind_lift c (Q := Q), run, run, wp_deviceId]

theorem body_runs (c : Dev nD) : bodyPre m c ⊢ run c (bodyAt0 (F := F) t0_0) fun _ => bodyPost m c := by
  rw [body_eq]
  unfold bodyPre Φ₀ before Dat.owesAt Pipeline.owesWithin
  rw [show (dats m 0 c).owed t0_0.castSucc = O₀ c from rfl]
  iintro ⟨⟨⟨#Hr, Hb, Hck, Hrv, Hsp⟩, Hscr⟩, ⟨%Wt, -, HO⟩, ⟨%d0, Hx⟩, ⟨%d1, Hw⟩, ⟨%d2, Ho⟩⟩
  rw [before_x, before_w]
  iapply (clean_run c)
  iapply (run_body (inX m) (inW m) c) $$ [Hb Hck Hrv Hscr HO Hx Hw Ho]
  · isplitr; · iexact Hr
    unfold bodyIn
    isplitl [Hx]; · iexact Hx
    isplitl [Hw]; · iexact Hw
    isplitl [Ho]
    · iexists _; iexact Ho
    isplitl [HO]
    · iexists _; iexact HO
    isplitl [Hb]; · iexact Hb
    isplitl [Hck]; · iexact Hck
    isplitl [Hrv]; · iexact Hrv
    iexact Hscr
  unfold bodyOut bodyPost Φ₁ Owe Dat.owesAt Pipeline.owesWithin
  rw [show (dats m 0 c).owed t0_0.succ = 0 from rfl]
  iintro ⟨Hx, Hw, Ho, ⟨%Wt', HO⟩, Z0, Z1, Z2, Hscr⟩
  isplitl [Z0 Z1 Z2 Hsp Hscr]
  · isplitl [Z0]; · iexact Z0
    isplitl [Z1]; · iexact Z1
    isplitl [Z2]; · iexact Z2
    isplitl [Hsp]; · iexact Hsp
    iexact Hscr
  isplitl [HO]
  · iexists Wt'
    isplitr
    · ipureintro; exact fun _ _ => Or.inl trivial
    · iexact HO
  isplitl [Hx]; · iexact Hx
  isplitl [Hw]; · iexact Hw
  iexact Ho

set_option maxRecDepth 200000 in
theorem obligation (c : Dev nD) : BodyObligation (dats m 0 c) (defs₀ (F := F)) 𝒱₀ () Set.univ := fun t => by
  rw [fin_N0 t, bigSep_W0, bigSep_W0]
  have hp : defs₀ (F := F) Proc.tc cfg0.body (cfg0.bodyArgs t0_0 (cfg0.slots t0_0)) = bodyAt0 t0_0 := rfl
  rw [hp]
  exact body_runs m c

/-! ## The launch -/

theorem ownFacts : Pipeline.OwnSemFacts cfg0.spec osem where
  isScoped := by decide +kernel
  inj := osem_inj
  disj := by decide +kernel

def u₀ : UU :=
  (initOf (Pipeline.cells cfgs cellOf_inj) (Pipeline.launchToks cfgs cellOf_inj), initOf allCells allToks)

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ hold (inX m) (inW m) c)
      ⊢ |={Set.univ}=> iprop(before m c ∗ emp) := by
  unfold hold part pays
  rw [bigSep_cl]
  iintro ⟨-, Hlev, Hcr, -, ⟨%K, HK⟩, ⟨Hab, Has, Har⟩, ⟨Htb, Hts, Htr⟩, Hsp⟩
  ihave Hc := (creds (F := F) c) $$ Hcr
  icases Hc with ⟨Hcb, Hcr⟩
  imodintro
  isplitl
  · unfold before
    isplitl [HK Hlev]
    · unfold recs recsAt cellsAt
      icases HK with ⟨H1, H2⟩
      iexists K
      isplitl [H1]; · iexact H1
      isplitl [H2]; · iexact H2
      iexact Hlev
    isplitl [Hab Hcb Htb]
    · unfold barToks
      isplitl [Hab]; · iexact Hab
      isplitl [Hcb]; · iexact Hcb
      iexact Htb
    isplitl [Has Hts Htr]
    · unfold ckToks
      rw [bigSep_sep', bigSep_sep']
      isplitl [Has]; · iexact Has
      isplitl [Hts]; · iexact Hts
      iexact Htr
    isplitl [Har Hcr]
    · unfold recvRes
      rw [bigSep_sep']
      isplitl [Har]; · iexact Har
      iexact Hcr
    iexact Hsp
  · iempintro

theorem enter_body (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq c).1 $$ Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems_eq, barSem_eq]
  unfold Φ₁
  iintro ⟨Z0, Z1, Z2, Hsp, Hscr⟩
  isplitl [Z0]; · iexact Z0
  isplitl [Z1 Z2 Hsp]
  · isplitl [Z1]; · iexact Z1
    isplitl [Z2]; · iexact Z2
    iexact Hsp
  iapply (scr_eq c).2 $$ Hscr

theorem stage_free (w : Fin cfg0.W) (s : Fin (cfg0.win w).nbuf) (x : Cl) : csem x ≠ .dma ((cfg0.win w).sem s) := by
  intro h
  rcases x with _ | ⟨_ | _, k⟩
  · cases h
  · exact ownFacts.disj (sIx k) w s ((sendS_eq k).symm.trans h)
  · exact ownFacts.disj (rIx k) w s ((recvS_eq k).symm.trans h)

theorem waits (c : Dev nD) : (levAts L lv : sProp 𝕄) ⊢ Pipeline.cellsWaits cfgs (dats m) () 0 c :=
  Pipeline.cellsWaits_intro cfgs (dats m) () 0 c fun w s t =>
    mayWait_stage c _ (stage_free w s) _ (by
      rcases t with ⟨_ | _, ht⟩
      · exact Or.inl rfl
      · exact Or.inr rfl)

set_option maxRecDepth 200000 in
/-- Every weakly fair run ends, with each window's array at what the body leaves, and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownFacts (Pipeline.PreFacts.none _) EP defs₀ 𝒱₀ m ρ main
    (hmain := fun _ => rfl) (hbody := obligation m) (hne := block_pos0) (harr := arr_whole0) (hstage := stage_whole0)
    (hshare := share_full m) (hdistinct := winFacts0.arr_inj)
    (O₀ := O₀) (howed₀ := fun _ => rfl) (howedN := fun _ => rfl)
    (L := L) (lv := lv) (hL := L_of_ne) (hwaits := waits m)
    (G := dealt (inX m) (inW m)) (G' := hold (inX m) (inW m)) (u₀ := u₀)
    (hu₀ := by
      unfold u₀
      iintro Hu
      ihave H := (ownU_pair _ _) $$ Hu
      icases H with ⟨HP, HX⟩
      imod (deal (inX m) (inW m)) $$ HX with HG
      imodintro
      isplitl [HP]; · iexact HP
      iexact HG)
    (hglob := setup (inX m) (inW m))
    (hA := fun _ _ => rfl) (hpf := fun _ k => k.elim0)
    (X := before m) (Y := fun c => unscopedSems0 c) (Z := fun _ => iprop(emp))
    (hX := enter m ρ) (hin := enter_body m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments after the run hold what they held, -/
theorem fin_x (c : Dev nD) : (dats m 0 c).arrAt (0 : Fin 3) cfg0.N = m ((c : Thread nD τ).loc main_arg0) :=
  (dats m 0 c).arrAt_in (0 : Fin 3) rfl _
theorem fin_w (c : Dev nD) : (dats m 0 c).arrAt (1 : Fin 3) cfg0.N = m ((c : Thread nD τ).loc main_arg1) :=
  (dats m 0 c).arrAt_in (1 : Fin 3) rfl _

/-- The frame: the run ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 0).trans (fin_x m c), (h.1 c 1).trans (fin_w m c)⟩, h.2⟩) (run_main m ρ)

end Launch

end Cert.KernelIdeal.Body

end
-- ==== Proof.Sums.lean ====
/- At exact values every device's result is the clamped sum, over all devices, of their products. -/
module

public import proofs.«01_k».proof.Proof.Vals
public import Idealize.ShloMosaic.Lib.MatmulPlain
public import Idealize.ShloMosaic.Lib.Pipeline.Value
public import Idealize.ShloMosaic.PureOps.Ideal.Laws

@[expose] public section

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open scoped BigOperators

variable (X : Dev nD → Vec Ideal S2048x64 .bf16) (W : Dev nD → Vec Ideal S64x2048 .bf16)

/-! ## One device's product -/

/-- Entry `(a, b)` of device `c`'s own product (zero past the edges). -/
def prd (c : Dev nD) (a b : ℕ) : EReal :=
  if h : a < 2048 ∧ b < 2048 then ∑ k : Fin 64, (X c (ix2 ⟨a, h.1⟩ k) : EReal) * (W c (ix2 k ⟨b, h.2⟩) : EReal) else 0

theorem prd_of (c : Dev nD) (a b : ℕ) (f : Fin 64 → EReal) (g : Fin 64 → EReal) (ha : a < 2048) (hb : b < 2048)
    (hf : ∀ k, f k = X c (ix2 ⟨a, ha⟩ k)) (hg : ∀ k, g k = W c (ix2 k ⟨b, hb⟩)) :
    ∑ k : Fin 64, f k * g k = prd X W c a b := by
  unfold prd
  rw [dif_pos ⟨ha, hb⟩]
  exact Finset.sum_congr rfl fun k _ => by rw [hf, hg]

/-- A direction's columns of the weights. -/
theorem wCols_apply (d : Fin 2) (w : Vec Ideal S64x2048 .bf16) (k : Fin 64) (l : Fin 1024) :
    wCols d w (ix2 k l) = w (ix2 k ⟨1024 * d.val + l.val, by omega⟩) := by
  unfold wCols
  rw [shapeCast_self]
  refine extractStridedSlice_apply _ _ _ _ _ fun a => ?_
  fin_cases d <;> fin_cases a <;> simp

theorem pInit_apply (d : Fin 2) (w : Vec Ideal S64x2048 .bf16) (x : Vec Ideal S128x64 .bf16) (r : Fin 128) (l : Fin 1024) :
    (pInit d w x (ix2 r l) : EReal)
      = ∑ k : Fin 64, (x (ix2 r k) : EReal) * (w (ix2 k ⟨1024 * d.val + l.val, by omega⟩) : EReal) := by
  have h := Ideal.matmul_plain_apply (M := 128) (K := 64) (N := 1024) (φ₁ := .bf16) (φ₂ := .bf16) none x (wCols d w) (constant S128x1024 .f32 0x00000000#32) r l
  rw [show (constant S128x1024 .f32 0x00000000#32 : FVec Ideal S128x1024 .f32) (ix2 r l) = (0 : EReal) from Ideal.ofBits_zero_f32,
    zero_add] at h
  unfold pInit
  rw [shapeCast_self]
  refine Eq.trans h (Finset.sum_congr rfl fun k _ => ?_)
  rw [wCols_apply]

theorem pRel_apply (d : Fin 2) (w : Vec Ideal S64x2048 .bf16) (x : Vec Ideal S256x64 .bf16) (r : Fin 256) (l : Fin 1024) :
    (pRel d w x (ix2 r l) : EReal)
      = ∑ k : Fin 64, (x (ix2 r k) : EReal) * (w (ix2 k ⟨1024 * d.val + l.val, by omega⟩) : EReal) := by
  have h := Ideal.matmul_plain_apply (M := 256) (K := 64) (N := 1024) (φ₁ := .bf16) (φ₂ := .bf16) none x (wCols d w) (constant S256x1024 .f32 0x00000000#32) r l
  rw [show (constant S256x1024 .f32 0x00000000#32 : FVec Ideal S256x1024 .f32) (ix2 r l) = (0 : EReal) from Ideal.ofBits_zero_f32,
    zero_add] at h
  unfold pRel
  rw [shapeCast_self, shapeCast_self]
  refine Eq.trans h (Finset.sum_congr rfl fun k _ => ?_)
  rw [wCols_apply]

theorem blk_row (b : Fin 8) (h : Bool) (c : Dev nD) (r : Fin 128) : 256 * b.val + hlf h c + r.val < 2048 := by
  have := hlf_cases h c
  omega

theorem vInit_apply (d j : Fin 2) (c : Dev nD) (r : Fin 128) (l : Fin 1024) :
    vInit X W d j c (ix2 r l) = prd X W c (256 * (pOf c).val + hlf (bA j) c + r.val) (1024 * d.val + l.val) := by
  unfold vInit
  rw [pInit_apply]
  refine prd_of X W c _ _ _ _ (blk_row _ _ c r) (by omega) (fun k => ?_) fun k => rfl
  unfold xI
  have ho := congrFun (xOff_eq j c)
  refine congrArg (X c) (funext fun a => Fin.ext ?_)
  show xOff j c a + 1 * ((ix2 r k : (⟨2, ![128, 64]⟩ : Shape).Idx) a).val = _
  rw [ho]
  fin_cases a
  · show 256 * (pOf c).val + hlf (bA j) c + 1 * r.val = 256 * (pOf c).val + hlf (bA j) c + r.val
    omega
  · show 0 + 1 * k.val = k.val
    omega

theorem vRel_apply (d : Fin 2) (n : Fin 8) (hn : n ≠ 0) (c : Dev nD) (r : Fin 256) (l : Fin 1024) :
    vRel X W d n c (ix2 r l) = prd X W c (256 * (blkA d n (pOf c)).val + r.val) (1024 * d.val + l.val) := by
  unfold vRel
  rw [pRel_apply]
  refine prd_of X W c _ _ _ _ (by omega) (by omega) (fun k => ?_) fun k => rfl
  unfold xR
  have ho := congrFun (rOff_eq d n hn c)
  refine congrArg (X c) (funext fun a => Fin.ext ?_)
  show rOff d n c a + 1 * ((ix2 r k : (⟨2, ![256, 64]⟩ : Shape).Idx) a).val = _
  rw [ho]
  fin_cases a
  · show 256 * (blkA d n (pOf c)).val + 1 * r.val = 256 * (blkA d n (pOf c)).val + r.val
    omega
  · show 0 + 1 * k.val = k.val
    omega

theorem vHalf_apply (d : Fin 2) (s : Fin 7) (j : Fin 2) (c : Dev nD) (r : Fin 128) (l : Fin 1024) :
    vHalf X W d s j c (ix2 r l)
      = prd X W c (256 * (blkA d s.succ (pOf c)).val + hlf (bA j) c + r.val) (1024 * d.val + l.val) := by
  unfold vHalf
  have hh := hlf_cases (bA j) c
  have ho := congrFun (wOff_eq j c)
  have he : (wR j c).emb (ix2 r l) = (ix2 ⟨hlf (bA j) c + r.val, by omega⟩ l : (⟨2, ![256, 1024]⟩ : Shape).Idx) := by
    refine funext fun a => Fin.ext ?_
    show wOff j c a + 1 * ((ix2 r l : (⟨2, ![128, 1024]⟩ : Shape).Idx) a).val = _
    rw [ho]
    fin_cases a
    · show hlf (bA j) c + 1 * r.val = hlf (bA j) c + r.val
      omega
    · show 0 + 1 * l.val = l.val
      omega
  rw [he, vRel_apply X W d s.succ (Fin.succ_ne_zero s)]
  congr 1
  show 256 * _ + (hlf (bA j) c + r.val) = _
  omega

/-! ## The sum along a ring -/

theorem zOf_prv : ∀ d c, zOf (prv d c) = zOf c := by decide +kernel
theorem hlf_prv (b : Bool) (d : Fin 2) (c : Dev nD) : hlf b (prv d c) = hlf b c := by unfold hlf; rw [zOf_prv]
theorem blkA_prv : ∀ d, ∀ n : Fin 7, ∀ c, blkA d n.castSucc (pOf (prv d c)) = blkA d n.succ (pOf c) := by decide +kernel
theorem prv_iter : ∀ d, ∀ i : Fin 8, ∀ c, (prv d)^[i.val] c = mkDev (zOf c) (blkA d i (pOf c)) := by decide +kernel
theorem blkA_inj : ∀ d p i i', blkA d i p = blkA d i' p → i = i' := by decide +kernel

theorem blkA_zero : ∀ d p, blkA d 0 p = p := by decide +kernel
theorem blkA_last : ∀ d p, blkA d 7 p = blkC d 0 p := by decide +kernel

theorem vA_apply (d j : Fin 2) (n : ℕ) (hn : n < 8) (c : Dev nD) (r : Fin 128) (l : Fin 1024) :
    vA X W d j n c (ix2 r l) = ∑ i ∈ Finset.range (n + 1),
      prd X W ((prv d)^[i] c) (256 * (blkA d ⟨n, hn⟩ (pOf c)).val + hlf (bA j) c + r.val) (1024 * d.val + l.val) := by
  induction n generalizing c with
  | zero =>
    have h0 : ∀ p, blkA d ⟨0, hn⟩ p = p := blkA_zero d
    rw [Finset.sum_range_one, h0]
    exact vInit_apply X W d j c r l
  | succ n ih =>
    have e7 : Fin.ofNat 7 n = ⟨n, by omega⟩ := Fin.ext (Nat.mod_eq_of_lt (by omega))
    rw [Finset.sum_range_succ']
    have h1 := ih (by omega) (prv d c)
    have h2 := vHalf_apply X W d ⟨n, by omega⟩ j c r l
    have h3 := blkA_prv d ⟨n, by omega⟩ c
    show (vA X W d j n (prv d c) (ix2 r l) : EReal) + (vHalf X W d (Fin.ofNat 7 n) j c (ix2 r l) : EReal) = _
    rw [e7, h1, h2, hlf_prv]
    rw [show blkA d ⟨n, _⟩ (pOf (prv d c)) = _ from h3]
    rfl

/-- The sum over a plane. -/
def plane (z : Fin 4) (a b : ℕ) : EReal := ∑ q : Fin 8, prd X W (mkDev z q) a b

theorem vLast_apply (d j : Fin 2) (c : Dev nD) (r : Fin 128) (l : Fin 1024) :
    vLast X W d j c (ix2 r l)
      = plane X W (zOf c) (256 * (blkC d 0 (pOf c)).val + hlf (bA j) c + r.val) (1024 * d.val + l.val) := by
  have h := vA_apply X W d j 7 (by omega) c r l
  have hb := blkA_last d
  refine Eq.trans (show _ = vA X W d j 7 c (ix2 r l) from rfl) (h.trans ?_)
  rw [Finset.sum_range, show blkA d ⟨7, _⟩ (pOf c) = _ from hb _]
  unfold plane
  refine Function.Bijective.sum_comp (e := fun i : Fin 8 => blkA d i (pOf c))
    (Finite.injective_iff_bijective.mp fun i i' => blkA_inj d _ i i')
    (fun q => prd X W (mkDev (zOf c) q) _ _) |>.symm.trans ?_ |>.symm
  exact Finset.sum_congr rfl fun i _ => by rw [prv_iter]

/-! ## The sum over all planes -/

theorem nb3_z : ∀ c, zOf (nb 3 c) = zPair (zOf c) := by decide +kernel
theorem nb3_p : ∀ c, pOf (nb 3 c) = pOf c := by decide +kernel
theorem nb3_hlf : ∀ b c, hlf b (nb 3 c) = hlf (!b) c := by decide +kernel
theorem nb2_z : ∀ c, zOf (nb 2 c) = zFar (zOf c) := by decide +kernel
theorem nb2_p : ∀ c, pOf (nb 2 c) = pOf c := by decide +kernel
theorem nb2_hlf : ∀ b c, hlf b (nb 2 c) = hlf b c := by decide +kernel

theorem vPair_apply (d : Fin 2) (c : Dev nD) (r : Fin 128) (l : Fin 1024) :
    (vPair X W d c (ix2 r l) : EReal)
      = plane X W (zOf c) (256 * (blkC d 0 (pOf c)).val + hlf true c + r.val) (1024 * d.val + l.val)
        + plane X W (zPair (zOf c)) (256 * (blkC d 0 (pOf c)).val + hlf true c + r.val) (1024 * d.val + l.val) := by
  have h1 := vLast_apply X W d 1 c r l
  have h2 := vLast_apply X W d 0 (nb 3 c) r l
  rw [nb3_z, nb3_p, nb3_hlf] at h2
  exact congr (congrArg HAdd.hAdd h1) h2

/-- Entry `(a, b)` of the result: the products of all devices summed, clamped at zero. -/
def total (a b : ℕ) : EReal := max (∑ c : Dev nD, prd X W c a b) 0

theorem devs_equiv : Function.Bijective (fun t : Fin 4 × Fin 8 => mkDev t.1 t.2) :=
  ⟨fun t t' h => Prod.ext (by rw [← zOf_mk t.1 t.2, ← zOf_mk t'.1 t'.2]; exact congrArg zOf h)
    (by rw [← pOf_mk t.1 t.2, ← pOf_mk t'.1 t'.2]; exact congrArg pOf h), fun c => ⟨(zOf c, pOf c), mkDev_zp c⟩⟩

/-- A plane, its pair, the far one and its pair are all four. -/
theorem planes (f : Fin 4 → EReal) (z : Fin 4) : f z + f (zPair z) + (f (zFar z) + f (zPair (zFar z))) = ∑ y, f y := by
  rw [Fin.sum_univ_four]
  fin_cases z
  · show f 0 + f 1 + (f 2 + f 3) = _; ac_rfl
  · show f 1 + f 0 + (f 3 + f 2) = _; ac_rfl
  · show f 2 + f 3 + (f 0 + f 1) = _; ac_rfl
  · show f 3 + f 2 + (f 1 + f 0) = _; ac_rfl

theorem all_planes (a b : ℕ) (z : Fin 4) :
    plane X W z a b + plane X W (zPair z) a b + (plane X W (zFar z) a b + plane X W (zPair (zFar z)) a b)
      = ∑ c : Dev nD, prd X W c a b := by
  rw [planes (fun z => plane X W z a b) z, ← devs_equiv.sum_comp (fun c => prd X W c a b), Fintype.sum_prod_type]
  rfl

theorem vQuad_apply (d : Fin 2) (c : Dev nD) (r : Fin 128) (l : Fin 1024) :
    vQuad X W d c (ix2 r l) = total X W (256 * (blkC d 0 (pOf c)).val + hlf true c + r.val) (1024 * d.val + l.val) := by
  have h1 := vPair_apply X W d c r l
  have h2 := vPair_apply X W d (nb 2 c) r l
  rw [nb2_z, nb2_p, nb2_hlf] at h2
  show max ((vPair X W d c (ix2 r l) : EReal) + (vPair X W d (nb 2 c) (ix2 r l) : EReal)) (Ideal.ofBits .f32 0x00000000#32) = _
  rw [h1, h2, all_planes, Ideal.ofBits_zero_f32]
  rfl

/-! ## The result -/

theorem blkC_prv : ∀ d, ∀ n : Fin 7, ∀ c, blkC d n.castSucc (pOf (prv d c)) = blkC d n.succ (pOf c) := by decide +kernel

theorem vC_apply (d j : Fin 2) (n : ℕ) (hn : n < 8) (c : Dev nD) (r : Fin 128) (l : Fin 1024) :
    vC X W d j n c (ix2 r l)
      = total X W (256 * (blkC d ⟨n, hn⟩ (pOf c)).val + hlf (bC j) c + r.val) (1024 * d.val + l.val) := by
  induction n generalizing c with
  | zero =>
    show (if j = 0 then vQuad X W d c else vQuad X W d (nb 3 c)) (ix2 r l) = _
    fin_cases j
    · exact vQuad_apply X W d c r l
    · have h := vQuad_apply X W d (nb 3 c) r l
      rw [nb3_p, nb3_hlf] at h
      exact h
  | succ n ih =>
    have h := ih (by omega) (prv d c)
    rw [hlf_prv, show blkC d ⟨n, _⟩ (pOf (prv d c)) = _ from blkC_prv d ⟨n, by omega⟩ c] at h
    exact h

/-- Every device's result. -/
theorem vOut_apply (c : Dev nD) : vOut X W c = fun i => total X W (i 0).val (i 1).val := by
  unfold vOut
  refine (eq_glue (oR c) (oR_disjoint c) (oR_cover c) _ _ fun t j => ?_).symm
  obtain ⟨r, l, rfl⟩ : ∃ (r : Fin 128) (l : Fin 1024), j = ix2 r l := ⟨_, _, eq_ix2 j⟩
  refine Eq.trans ?_ (vC_apply X W t.1 t.2.2 t.2.1.val t.2.1.isLt c r l).symm
  show total X W (oOff c t 0 + 1 * r.val) (oOff c t 1 + 1 * l.val) = _
  rw [Nat.one_mul, Nat.one_mul]
  rfl

end Cert.KernelIdeal.Body

end
-- ==== Proof.Value.lean ====
/- The value claim: every device's result array is the reference's. -/
module

public import proofs.«01_k».proof.Defs
public import proofs.«01_k».proof.Proof.Run
public import proofs.«01_k».proof.Proof.Sums
public import proofs.«01_k».proof.Proof.Gen.ReferenceIdeal.Run
public import Idealize.ShloMosaic.Lib.StackMember
public import Idealize.ShloMosaic.Lib.Layout

@[expose] public section

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open scoped BigOperators

/-! ## The windows are whole arrays -/

section Whole
variable {F : FTy → Type} [FloatOps F] (m : (ℓ : Loc nD τ sig) → Buf (Elt F) ℓ) (c : Dev nD)

theorem off_x : (fun a => win0_0.index t0_0 a * main_arg0.ty.shape.size a) = fun _ => 0 := funext fun a => by fin_cases a <;> decide
theorem off_w : (fun a => win0_1.index t0_0 a * main_arg1.ty.shape.size a) = fun _ => 0 := funext fun a => by fin_cases a <;> decide
theorem off_o : (fun a => win0_2.index t0_0 a * main_v1.ty.shape.size a) = fun _ => 0 := funext fun a => by fin_cases a <;> decide

theorem inX_eq : inX m c = m ((c : Thread nD τ).loc main_arg0) := by
  have h := Memref.read_access_unit_zero (Elt F) main_arg0 off_x (fun a => by fin_cases a <;> decide)
    (m ((c : Thread nD τ).loc main_arg0))
  refine Eq.trans ?_ h
  unfold inX iblk
  rfl
theorem inW_eq : inW m c = m ((c : Thread nD τ).loc main_arg1) := by
  have h := Memref.read_access_unit_zero (Elt F) main_arg1 off_w (fun a => by fin_cases a <;> decide)
    (m ((c : Thread nD τ).loc main_arg1))
  refine Eq.trans ?_ h
  unfold inW iblk
  rfl

/-- The result array ends at what the body leaves. -/
theorem fin_o : (dats m 0 c).arrAt (2 : Fin 3) cfg0.N = outV m c := by
  refine (Memref.read_access_unit_zero (Elt F) main_v1 off_o (fun a => by fin_cases a <;> decide) _).symm.trans ?_
  have hN : (dats m 0 c).arrAt (2 : Fin 3) cfg0.N = _ := (dats m 0 c).arrAt_succ (2 : Fin 3) t0_0
  rw [if_pos (flush0_2 t0_0)] at hN
  rw [hN]
  exact View.read_write_univ _ _

end Whole

/-! ## Blocks of the whole arrays -/

/-- A sum over the whole contraction is the sum over the devices of their parts. -/
theorem sum_parts (f : Fin 2048 → EReal) :
    ∑ q, f q = ∑ c : Fin 32, ∑ k : Fin 64, f ⟨c.val * 64 + k.val, by omega⟩ := by
  rw [← Equiv.sum_comp (finProdFinEquiv (m := 32) (n := 64)) f, Fintype.sum_prod_type]
  refine Finset.sum_congr rfl fun c _ => Finset.sum_congr rfl fun k _ => congrArg f (Fin.ext ?_)
  show k.val + 64 * c.val = c.val * 64 + k.val
  omega

/-- The reference's result. -/
def refOut (x w : FVec Ideal ⟨2, ![2048, 2048]⟩ .bf16) : FVec Ideal ⟨2, ![2048, 2048]⟩ .f32 :=
  maximumf (Host.dotGeneral Cert.ReferenceIdeal.dot_S2048x2048_S2048x2048_S2048x2048_1_0_0_1_n_n none
      (extf .f32 x Cert.ReferenceIdeal.Gen.bitsLt_bf16_f32) (extf .f32 w Cert.ReferenceIdeal.Gen.bitsLt_bf16_f32))
    (broadcastInDim Cert.ReferenceIdeal.S2048x2048 ![] Cert.ReferenceIdeal.Gen.bcast_S_S2048x2048
      (constant Cert.ReferenceIdeal.S_ .f32 0x00000000#32))

theorem refOut_apply (x w : FVec Ideal ⟨2, ![2048, 2048]⟩ .bf16) (a b : Fin 2048) :
    (refOut x w (ix2 a b) : EReal) = max (∑ q : Fin 2048, (x (ix2 a q) : EReal) * (w (ix2 q b) : EReal)) 0 := by
  have h := StackMember.dotGeneral_plain_apply (m := 2048) (n := 2048) (k := 2048) none
    (extf .f32 x Cert.ReferenceIdeal.Gen.bitsLt_bf16_f32) (extf .f32 w Cert.ReferenceIdeal.Gen.bitsLt_bf16_f32) a b
  exact congr (congrArg max h) Ideal.ofBits_zero_f32

/-- The devices' clamped sum is the reference's entry, when each device holds its blocks. -/
theorem total_eq (X : Dev nD → Vec Ideal S2048x64 .bf16) (W : Dev nD → Vec Ideal S64x2048 .bf16)
    (x w : FVec Ideal ⟨2, ![2048, 2048]⟩ .bf16)
    (hX : ∀ c : Dev nD, X c = Layout.block ⟨2, ![2048, 64]⟩ ⟨2, ![2048, 2048]⟩ 1 32 c x)
    (hW : ∀ c : Dev nD, W c = Layout.block ⟨2, ![64, 2048]⟩ ⟨2, ![2048, 2048]⟩ 0 32 c w) (a b : Fin 2048) :
    total X W a.val b.val = (refOut x w (ix2 a b) : EReal) := by
  rw [refOut_apply, sum_parts]
  refine congrArg (max · 0) (Finset.sum_congr rfl fun c _ => ?_)
  refine (prd_of X W c a.val b.val _ _ a.isLt b.isLt (fun k => ?_) fun k => ?_).symm
  · rw [hX, Layout.block_apply]
    refine congrArg x (funext fun e => Fin.ext ?_)
    fin_cases e <;> rfl
  · rw [hW, Layout.block_apply]
    refine congrArg w (funext fun e => Fin.ext ?_)
    fin_cases e <;> rfl

/-! ## The claim -/

theorem algebraic : Cert.algebraic_KernelIdeal_ReferenceIdeal := by
  intro m ρ m' ρ' _ hblk
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run defs _ _).mono (fun r h c => ⟨((h.1 c 2).trans (fin_o m c)).trans ?_, (h.1 c 0).trans (fin_x m c),
      (h.1 c 1).trans (fin_w m c)⟩) (run_main m ρ)
    unfold outV
    rw [vOut_apply]
    funext i
    obtain ⟨a, b, rfl⟩ : ∃ a b : Fin 2048, i = ix2 a b := ⟨_, _, eq_ix2 i⟩
    exact total_eq (inX m) (inW m) _ _ (fun c => (inX_eq m c).trans (hblk c).1) (fun c => (inW_eq m c).trans (hblk c).2) a b
  · exact (θ_run Cert.ReferenceIdeal.defs _ _).mono (fun r h => h 0) (Cert.ReferenceIdeal.Value.run (F := Ideal) m' ρ')

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 200000

noncomputable section

namespace Cert.Proof

open Idealize.ShloMosaic Idealize.SL.Sem Cert.Kernel

/-! ## The frames -/

/-- The two printed programs have one body table, -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_eq : Cert.Kernel.defs (F := Bits) = Cert.KernelIdeal.defs (F := Bits) := by
  unfold Cert.Kernel.defs Cert.KernelIdeal.defs
  exact congrArg (Pipeline.defs _) defs₀_eq
/-- so the run at any float values is the printed kernel's. -/
theorem frame_kernel : Cert.quiescent_Kernel := fun m ρ _ => by
  have h := Cert.KernelIdeal.Body.run_frame (F := Bits) m ρ
  rw [← defs_eq] at h
  exact h
theorem frame_ideal : Cert.quiescent_KernelIdeal := fun m ρ _ => Cert.KernelIdeal.Body.run_frame (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelIdeal.Body.algebraic⟩

end Cert.Proof

end
